-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v46_0)) (v1 : (c : Dev Cert.Kernel2Ideal.nD) → Buf (Elt Ideal) ((c.tc : Thread Cert.Kernel2Ideal.nD Cert.Kernel2Ideal.τ).loc Cert.Kernel2Ideal.main_v46_1)) (v2 : (c : Dev Cert.Kernel2Ideal.nD) → Buf (Elt Ideal) ((c.tc : Thread Cert.Kernel2Ideal.nD Cert.Kernel2Ideal.τ).loc Cert.Kernel2Ideal.main_v46_2)) (v3 : (c : Dev Cert.Kernel2Ideal.nD) → Buf (Elt Ideal) ((c.tc : Thread Cert.Kernel2Ideal.nD Cert.Kernel2Ideal.τ).loc Cert.Kernel2Ideal.main_v46_3)) (v4 : (c : Dev Cert.Kernel2Ideal.nD) → Buf (Elt Ideal) ((c.tc : Thread Cert.Kernel2Ideal.nD Cert.Kernel2Ideal.τ).loc Cert.Kernel2Ideal.main_v46_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46_0) = v0 c
          ∧ r.2.mem ((c.tc : Thread Cert.Kernel2Ideal.nD Cert.Kernel2Ideal.τ).loc Cert.Kernel2Ideal.main_v46_1) = v1 c
          ∧ r.2.mem ((c.tc : Thread Cert.Kernel2Ideal.nD Cert.Kernel2Ideal.τ).loc Cert.Kernel2Ideal.main_v46_2) = v2 c
          ∧ r.2.mem ((c.tc : Thread Cert.Kernel2Ideal.nD Cert.Kernel2Ideal.τ).loc Cert.Kernel2Ideal.main_v46_3) = v3 c
          ∧ r.2.mem ((c.tc : Thread Cert.Kernel2Ideal.nD Cert.Kernel2Ideal.τ).loc Cert.Kernel2Ideal.main_v46_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v103) = v1 c
          ∧ r.2.mem ((c.tc : Thread Cert.Reference2Ideal.nD Cert.Reference2Ideal.τ).loc Cert.Reference2Ideal.main_v107) = v2 c
          ∧ r.2.mem ((c.tc : Thread Cert.Reference2Ideal.nD Cert.Reference2Ideal.τ).loc Cert.Reference2Ideal.main_v108) = v3 c
          ∧ r.2.mem ((c.tc : Thread Cert.Reference2Ideal.nD Cert.Reference2Ideal.τ).loc Cert.Reference2Ideal.main_v110) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_v30) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v20) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite_values.lean ====
abbrev S4x64 : Shape := ⟨2, ![4, 64]⟩
abbrev S128 : Shape := ⟨1, ![128]⟩
abbrev S4x8192x1024 : Shape := ⟨3, ![4, 8192, 1024]⟩
abbrev S_ : Shape := ⟨0, ![]⟩

class Facts : Prop where
  bcast_S_S4x64 : S_.BroadcastsInDim S4x64 (![] : Fin 0 → Fin S4x64.rank)
  bcast_S_S4x8192x1024 : S_.BroadcastsInDim S4x8192x1024 (![] : Fin 0 → Fin S4x8192x1024.rank)

variable [Facts]

def fn {F : FTy → Type} [FloatOps F] (main_arg0 : FVec F S4x64 .f32) (main_arg1 : FVec F S128 .f32) (main_arg2 : FVec F S4x8192x1024 .bf16) (main_arg3 : FVec F S4x8192x1024 .bf16) (main_arg4 : FVec F S4x8192x1024 .bf16) : IVec S4x64 1 × IVec S4x8192x1024 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S4x8192x1024 .bf16 := Host.absf main_arg4
  let main_cst_0 : FVec F S_ .bf16 := constant S_ .bf16 0x7F80#16
  let main_v4 : FVec F S4x8192x1024 .bf16 := broadcastInDim S4x8192x1024 ![] bcast_S_S4x8192x1024 main_cst_0
  let main_v5 : IVec S4x8192x1024 1 := cmpf .olt main_v3 main_v4
  (main_v2, main_v5)
-- ==== Kernel.lean ====
abbrev S4x64 : Shape := ⟨2, ![4, 64]⟩
abbrev S128 : Shape := ⟨1, ![128]⟩
abbrev S4x8192x1024 : Shape := ⟨3, ![4, 8192, 1024]⟩
abbrev S128x1 : Shape := ⟨2, ![128, 1]⟩
abbrev S128x512 : Shape := ⟨2, ![128, 512]⟩
abbrev S1x512x128 : Shape := ⟨3, ![1, 512, 128]⟩
abbrev S1x8192x128 : Shape := ⟨3, ![1, 8192, 128]⟩
abbrev S8x144x1024 : Shape := ⟨3, ![8, 144, 1024]⟩
abbrev S128x1024 : Shape := ⟨2, ![128, 1024]⟩
abbrev S3x1024x1024 : Shape := ⟨3, ![3, 1024, 1024]⟩
abbrev S144x1024 : Shape := ⟨2, ![144, 1024]⟩
abbrev S1x1024x128 : Shape := ⟨3, ![1, 1024, 128]⟩
abbrev S1024x128 : Shape := ⟨2, ![1024, 128]⟩
abbrev S1x128x1024 : Shape := ⟨3, ![1, 128, 1024]⟩
abbrev S16x1024 : Shape := ⟨2, ![16, 1024]⟩
abbrev S1x16x1024 : Shape := ⟨3, ![1, 16, 1024]⟩
abbrev S512x128 : Shape := ⟨2, ![512, 128]⟩
abbrev S1024x1024 : Shape := ⟨2, ![1024, 1024]⟩
abbrev S1x1024x1024 : Shape := ⟨3, ![1, 1024, 1024]⟩
abbrev S1x1024 : Shape := ⟨2, ![1, 1024]⟩
abbrev S512x1024 : Shape := ⟨2, ![512, 1024]⟩
abbrev S256x1024 : Shape := ⟨2, ![256, 1024]⟩
abbrev S64x1024 : Shape := ⟨2, ![64, 1024]⟩
abbrev S32x1024 : Shape := ⟨2, ![32, 1024]⟩
abbrev S8x1024 : Shape := ⟨2, ![8, 1024]⟩
abbrev S1024 : Shape := ⟨1, ![1024]⟩
abbrev S1x144x1024 : Shape := ⟨3, ![1, 144, 1024]⟩
abbrev S1x64 : Shape := ⟨2, ![1, 64]⟩
abbrev S1 : Shape := ⟨1, ![1]⟩
abbrev S1x1 : Shape := ⟨2, ![1, 1]⟩
abbrev S512 : Shape := ⟨1, ![512]⟩
abbrev S1x512 : Shape := ⟨2, ![1, 512]⟩

abbrev nBuf : Space → Nat
  | .hbm => 8
  | .vmem => 15
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S4x8192x1024, .bf16⟩
  | .hbm, ⟨3, _⟩ => ⟨S4x8192x1024, .bf16⟩
  | .hbm, ⟨4, _⟩ => ⟨S4x8192x1024, .bf16⟩
  | .hbm, ⟨5, _⟩ => ⟨S128x1, .f32⟩
  | .hbm, ⟨6, _⟩ => ⟨S128x512, .f32⟩
  | .hbm, ⟨7, _⟩ => ⟨S4x8192x1024, .bf16⟩
  | .local _ .vmem, ⟨0, _⟩ => ⟨S4x64, .f32⟩
  | .local _ .vmem, ⟨1, _⟩ => ⟨S128x512, .f32⟩
  | .local _ .vmem, ⟨2, _⟩ => ⟨S1x512x128, .bf16⟩
  | .local _ .vmem, ⟨3, _⟩ => ⟨S1x512x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x512x128, .bf16⟩
  | .local _ .vmem, ⟨9, _⟩ => ⟨S1x512x128, .bf16⟩
  | .local _ .vmem, ⟨10, _⟩ => ⟨S8x144x1024, .bf16⟩
  | .local _ .vmem, ⟨11, _⟩ => ⟨S128x1024, .bf16⟩
  | .local _ .vmem, ⟨12, _⟩ => ⟨S3x1024x1024, .f32⟩
  | .local _ .vmem, ⟨13, _⟩ => ⟨S3x1024x1024, .bf16⟩
  | .local _ .vmem, ⟨14, _⟩ => ⟨S144x1024, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 8, 16], ![false, false, false]⟩

def k0_off1 (c0_i32_46 : BitVec 32) : Fin 3 → Nat :=
  let c3_i32 : BitVec 32 := 3#32
  let c0_i32_45 : BitVec 32 := 0#32
  let v99 : BitVec 32 := Scalar.muli c3_i32 c0_i32_45
  let v100 : BitVec 32 := Scalar.addi v99 c0_i32_46
  let v101 : Index := Scalar.indexCast v100
  let c0_47 : Index := 0#32
  let c0_48 : Index := 0#32
  ![v101.toNat, 0, 0]
def k0_mult1 : BitVec 32 :=
  let c3_i32 : BitVec 32 := 3#32
  let c0_i32_45 : BitVec 32 := 0#32
  let v99 : BitVec 32 := Scalar.muli c3_i32 c0_i32_45
  let c0_i32_46 : BitVec 32 := 0#32
  let v100 : BitVec 32 := Scalar.addi v99 c0_i32_46
  let c3_i32_53 : BitVec 32 := 3#32
  let v107 : BitVec 32 := Scalar.addi v100 c3_i32_53
  let c1024_i32 : BitVec 32 := 1024#32
  let v108 : BitVec 32 := Scalar.muli v107 c1024_i32
  v108
def k0_off2 (c0_i32_46 : BitVec 32) : Fin 3 → Nat :=
  let c0_54 : Index := 0#32
  let c3_i32 : BitVec 32 := 3#32
  let c0_i32_45 : BitVec 32 := 0#32
  let v99 : BitVec 32 := Scalar.muli c3_i32 c0_i32_45
  let v100 : BitVec 32 := Scalar.addi v99 c0_i32_46
  let c3_i32_53 : BitVec 32 := 3#32
  let v107 : BitVec 32 := Scalar.addi v100 c3_i32_53
  let c1024_i32 : BitVec 32 := 1024#32
  let v108 : BitVec 32 := Scalar.muli v107 c1024_i32
  let v109 : BitVec 32 := v108
  let v110 : Index := Scalar.indexCast v109
  let c0_55 : Index := 0#32
  ![0, v110.toNat, 0]
def k0_mult2 : BitVec 32 :=
  let c3_i32_73 : BitVec 32 := 3#32
  let c0_i32_45 : BitVec 32 := 0#32
  let v160 : BitVec 32 := Scalar.muli c3_i32_73 c0_i32_45
  let c1_i32_74 : BitVec 32 := 1#32
  let v161 : BitVec 32 := Scalar.addi v160 c1_i32_74
  let c3_i32_81 : BitVec 32 := 3#32
  let v168 : BitVec 32 := Scalar.addi v161 c3_i32_81
  let c1024_i32_82 : BitVec 32 := 1024#32
  let v169 : BitVec 32 := Scalar.muli v168 c1024_i32_82
  v169
def k0_mult3 : BitVec 32 :=
  let c3_i32_102 : BitVec 32 := 3#32
  let c0_i32_45 : BitVec 32 := 0#32
  let v221 : BitVec 32 := Scalar.muli c3_i32_102 c0_i32_45
  let c2_i32 : BitVec 32 := 2#32
  let v222 : BitVec 32 := Scalar.addi v221 c2_i32
  let c3_i32_109 : BitVec 32 := 3#32
  let v229 : BitVec 32 := Scalar.addi v222 c3_i32_109
  let c1024_i32_110 : BitVec 32 := 1024#32
  let v230 : BitVec 32 := Scalar.muli v229 c1024_i32_110
  v230
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x64 : Shape := ⟨2, ![4, 64]⟩
abbrev S128 : Shape := ⟨1, ![128]⟩
abbrev S4x8192x1024 : Shape := ⟨3, ![4, 8192, 1024]⟩
abbrev S4x8192x8x2x2x32 : Shape := ⟨6, ![4, 8192, 8, 2, 2, 32]⟩
abbrev S4x8192x8x2x64 : Shape := ⟨5, ![4, 8192, 8, 2, 64]⟩
abbrev S4x8192x8x128 : Shape := ⟨4, ![4, 8192, 8, 128]⟩
abbrev S1x64 : Shape := ⟨2, ![1, 64]⟩
abbrev S64 : Shape := ⟨1, ![64]⟩
abbrev S_ : Shape := ⟨0, ![]⟩
abbrev S4x8x2x8192x8192 : Shape := ⟨5, ![4, 8, 2, 8192, 8192]⟩
abbrev S4x8x2x8192 : Shape := ⟨4, ![4, 8, 2, 8192]⟩
abbrev S4x8x2x8192x1 : Shape := ⟨5, ![4, 8, 2, 8192, 1]⟩
abbrev S4x8x1x8192x8192 : Shape := ⟨5, ![4, 8, 1, 8192, 8192]⟩
abbrev S4x8x8192x8192 : Shape := ⟨4, ![4, 8, 8192, 8192]⟩
abbrev S4x8x128x8192 : Shape := ⟨4, ![4, 8, 128, 8192]⟩
abbrev S4x8192x8 : Shape := ⟨3, ![4, 8192, 8]⟩
abbrev S4x8192x8x1 : Shape := ⟨4, ![4, 8192, 8, 1]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S4x8192x1024, .bf16⟩
  | .hbm, ⟨3, _⟩ => ⟨S4x8192x1024, .bf16⟩
  | .hbm, ⟨4, _⟩ => ⟨S4x8192x1024, .bf16⟩
  | .hbm, ⟨5, _⟩ => ⟨S4x8192x1024, .f32⟩
  | .hbm, ⟨6, _⟩ => ⟨S4x8192x8x2x2x32, .f32⟩
  | .hbm, ⟨7, _⟩ => ⟨S4x8192x8x2x2x32, .f32⟩
  | .hbm, ⟨8, _⟩ => ⟨S4x8192x8x2x64, .f32⟩
  | .hbm, ⟨9, _⟩ => ⟨S4x8192x1024, .f32⟩
  | .hbm, ⟨10, _⟩ => ⟨S4x8192x8x2x2x32, .f32⟩
  | .hbm, ⟨11, _⟩ => ⟨S4x8192x8x2x2x32, .f32⟩
  | .hbm, ⟨12, _⟩ => ⟨S4x8192x8x2x64, .f32⟩
  | .hbm, ⟨13, _⟩ => ⟨S4x8192x8x128, .bf16⟩
  | .hbm, ⟨14, _⟩ => ⟨S4x8192x8x128, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1x64, .f32⟩
  | .hbm, ⟨24, _⟩ => ⟨S64, .f32⟩
  | .hbm, ⟨25, _⟩ => ⟨S1x64, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x8x2x8192x8192, .f32⟩
  | .hbm, ⟨35, _⟩ => ⟨S_, .f32⟩
  | .hbm, ⟨36, _⟩ => ⟨S_, .f32⟩
  | .hbm, ⟨37, _⟩ => ⟨S4x8x2x8192x8192, .f32⟩
  | .hbm, ⟨38, _⟩ => ⟨S4x8x2x8192x8192, .f32⟩
  | .hbm, ⟨39, _⟩ => ⟨S_, .f32⟩
  | .hbm, ⟨40, _⟩ => ⟨S4x8x2x8192, .f32⟩
  | .hbm, ⟨41, _⟩ => ⟨S_, .f32⟩
  | .hbm, ⟨42, _⟩ => ⟨S4x8x2x8192, .f32⟩
  | .hbm, ⟨43, _⟩ => ⟨S4x8x2x8192, .f32⟩
  | .hbm, ⟨44, _⟩ => ⟨S4x8x2x8192x1, .f32⟩
  | .hbm, ⟨45, _⟩ => ⟨S4x8x2x8192x8192, .f32⟩
  | .hbm, ⟨46, _⟩ => ⟨S4x8x2x8192x8192, .f32⟩
  | .hbm, ⟨47, _⟩ => ⟨S4x8x2x8192x8192, .f32⟩
  | .hbm, ⟨48, _⟩ => ⟨S_, .f32⟩
  | .hbm, ⟨49, _⟩ => ⟨S4x8x2x8192, .f32⟩
  | .hbm, ⟨50, _⟩ => ⟨S4x8x2x8192x1, .f32⟩
  | .hbm, ⟨51, _⟩ => ⟨S4x8x2x8192x8192, .f32⟩
  | .hbm, ⟨52, _⟩ => ⟨S4x8x2x8192x8192, .f32⟩
  | .hbm, ⟨53, _⟩ => ⟨S4x8x1x8192x8192, .f32⟩
  | .hbm, ⟨54, _⟩ => ⟨S4x8x8192x8192, .f32⟩
  | .hbm, ⟨55, _⟩ => ⟨S4x8x1x8192x8192, .f32⟩
  | .hbm, ⟨56, _⟩ => ⟨S4x8x8192x8192, .f32⟩
  | .hbm, ⟨57, _⟩ => ⟨S4x8x8192x8192, .f32⟩
  | .hbm, ⟨58, _⟩ => ⟨S4x8x8192x8192, .f32⟩
  | .hbm, ⟨59, _⟩ => ⟨S4x8x8192x8192, .f32⟩
  | .hbm, ⟨60, _⟩ => ⟨S4x8x128x8192, .f32⟩
  | .hbm, ⟨61, _⟩ => ⟨S4x8192x8x128, .f32⟩
  | .hbm, ⟨62, _⟩ => ⟨S4x8192x8x128, .f32⟩
  | .hbm, ⟨63, _⟩ => ⟨S_, .f32⟩
  | .hbm, ⟨64, _⟩ => ⟨S4x8192x8, .f32⟩
  | .hbm, ⟨65, _⟩ => ⟨S4x8192x8x1, .f32⟩
  | .hbm, ⟨66, _⟩ => ⟨S_, .f32⟩
  | .hbm, ⟨67, _⟩ => ⟨S4x8192x8x1, .f32⟩
  | .hbm, ⟨68, _⟩ => ⟨S4x8192x8x1, .f32⟩
  | .hbm, ⟨69, _⟩ => ⟨S_, .f32⟩
  | .hbm, ⟨70, _⟩ => ⟨S4x8192x8x1, .f32⟩
  | .hbm, ⟨71, _⟩ => ⟨S4x8192x8x1, .f32⟩
  | .hbm, ⟨72, _⟩ => ⟨S4x8192x8x1, .f32⟩
  | .hbm, ⟨73, _⟩ => ⟨S4x8192x8x128, .f32⟩
  | .hbm, ⟨74, _⟩ => ⟨S4x8192x8x128, .f32⟩
  | .hbm, ⟨75, _⟩ => ⟨S1x1x1x128, .f32⟩
  | .hbm, ⟨76, _⟩ => ⟨S4x8192x8x128, .f32⟩
  | .hbm, ⟨77, _⟩ => ⟨S4x8192x8x128, .f32⟩
  | .hbm, ⟨78, _⟩ => ⟨S_, .f32⟩
  | .hbm, ⟨79, _⟩ => ⟨S4x8192x8x128, .f32⟩
  | .hbm, ⟨80, _⟩ => ⟨S4x8192x8x128, .f32⟩
  | .hbm, ⟨81, _⟩ => ⟨S4x8192x1024, .f32⟩
  | .hbm, ⟨82, _⟩ => ⟨S4x8192x1024, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024x1024 : Shape := ⟨2, ![1024, 1024]⟩
abbrev S4x1024 : Shape := ⟨2, ![4, 1024]⟩
abbrev S1024 : Shape := ⟨1, ![1024]⟩
abbrev S1024x4096 : Shape := ⟨2, ![1024, 4096]⟩
abbrev S4096 : Shape := ⟨1, ![4096]⟩
abbrev S4x1x1024 : Shape := ⟨3, ![4, 1, 1024]⟩
abbrev S1x1024 : Shape := ⟨2, ![1, 1024]⟩
abbrev S_ : Shape := ⟨0, ![]⟩
abbrev S1024x1 : Shape := ⟨2, ![1024, 1]⟩
abbrev S4096x1 : Shape := ⟨2, ![4096, 1]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S1x8192x2x32 : Shape := ⟨4, ![1, 8192, 2, 32]⟩
abbrev S8192x64 : Shape := ⟨2, ![8192, 64]⟩
abbrev S1x512x1024 : Shape := ⟨3, ![1, 512, 1024]⟩
abbrev S1x1x1024 : Shape := ⟨3, ![1, 1, 1024]⟩
abbrev S512x128 : Shape := ⟨2, ![512, 128]⟩
abbrev S512x1024 : Shape := ⟨2, ![512, 1024]⟩
abbrev S4x512x128 : Shape := ⟨3, ![4, 512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 72
  | .vmem => 35
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S1024x1024, .f32⟩
  | .hbm, ⟨3, _⟩ => ⟨S4x8192x1024, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S1024, .f32⟩
  | .hbm, ⟨8, _⟩ => ⟨S1024x4096, .f32⟩
  | .hbm, ⟨9, _⟩ => ⟨S1024, .i32⟩
  | .hbm, ⟨10, _⟩ => ⟨S1024, .i1⟩
  | .hbm, ⟨11, _⟩ => ⟨S4096, .i32⟩
  | .hbm, ⟨12, _⟩ => ⟨S4096, .i1⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S1x1024, .f32⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1024x1024, .f32⟩
  | .hbm, ⟨23, _⟩ => ⟨S1024x1024, .bf16⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S1024x4096, .f32⟩
  | .hbm, ⟨30, _⟩ => ⟨S1024x4096, .bf16⟩
  | .hbm, ⟨31, _⟩ => ⟨S32, .f32⟩
  | .hbm, ⟨32, _⟩ => ⟨S_, .f32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S32, .f32⟩
  | .hbm, ⟨39, _⟩ => ⟨S_, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S8192, .f32⟩
  | .hbm, ⟨46, _⟩ => ⟨S8192x1, .f32⟩
  | .hbm, ⟨47, _⟩ => ⟨S1x32, .f32⟩
  | .hbm, ⟨48, _⟩ => ⟨S8192x32, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S1x8192x1x32, .f32⟩
  | .hbm, ⟨53, _⟩ => ⟨S1x8192x4x32, .f32⟩
  | .hbm, ⟨54, _⟩ => ⟨S8192x128, .f32⟩
  | .hbm, ⟨55, _⟩ => ⟨S8192x32, .f32⟩
  | .hbm, ⟨56, _⟩ => ⟨S1x8192x1x32, .f32⟩
  | .hbm, ⟨57, _⟩ => ⟨S1x8192x2x32, .f32⟩
  | .hbm, ⟨58, _⟩ => ⟨S8192x64, .f32⟩
  | .hbm, ⟨59, _⟩ => ⟨S8192x64, .f32⟩
  | .hbm, ⟨60, _⟩ => ⟨S8192x128, .f32⟩
  | .hbm, ⟨61, _⟩ => ⟨S_, .f32⟩
  | .hbm, ⟨62, _⟩ => ⟨S8192x128, .f32⟩
  | .hbm, ⟨63, _⟩ => ⟨S8192x128, .f32⟩
  | .hbm, ⟨64, _⟩ => ⟨S_, .f32⟩
  | .hbm, ⟨65, _⟩ => ⟨S8192x128, .f32⟩
  | .hbm, ⟨66, _⟩ => ⟨S8192x128, .f32⟩
  | .hbm, ⟨67, _⟩ => ⟨S4x8192x1024, .f32⟩
  | .hbm, ⟨68, _⟩ => ⟨S4x8192x1024, .bf16⟩
  | .hbm, ⟨69, _⟩ => ⟨S4x8192x1024, .bf16⟩
  | .hbm, ⟨70, _⟩ => ⟨S4x8192x1024, .bf16⟩
  | .hbm, ⟨71, _⟩ => ⟨S4x8192x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1024x4096, .bf16⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S1x512x1024, .f32⟩
  | .local _ .vmem, ⟨24, _⟩ => ⟨S1x512x1024, .f32⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x512x1024, .bf16⟩
  | .local _ .vmem, ⟨33, _⟩ => ⟨S512x1024, .bf16⟩
  | .local _ .vmem, ⟨34, _⟩ => ⟨S4x512x128, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_c_2 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46_0 : Ref sig .tc := ⟨.hbm, 67, rfl⟩
abbrev main_v46_1 : Ref sig .tc := ⟨.hbm, 68, rfl⟩
abbrev main_v46_2 : Ref sig .tc := ⟨.hbm, 69, rfl⟩
abbrev main_v46_3 : Ref sig .tc := ⟨.hbm, 70, rfl⟩
abbrev main_v46_4 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_scratch0 : Ref sig .tc := ⟨.vmem, 33, rfl⟩
abbrev cc0_scratch1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference2Ideal.lean ====
abbrev S4x8192x1024 : Shape := ⟨3, ![4, 8192, 1024]⟩
abbrev S1024x1024 : Shape := ⟨2, ![1024, 1024]⟩
abbrev S4x1024 : Shape := ⟨2, ![4, 1024]⟩
abbrev S1024 : Shape := ⟨1, ![1024]⟩
abbrev S1024x4096 : Shape := ⟨2, ![1024, 4096]⟩
abbrev S4x1x1024 : Shape := ⟨3, ![4, 1, 1024]⟩
abbrev S4x8192x2x4x2x64 : Shape := ⟨6, ![4, 8192, 2, 4, 2, 64]⟩
abbrev S4x8192x2x2x4x64 : Shape := ⟨6, ![4, 8192, 2, 2, 4, 64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S4x8192x8x2x64 : Shape := ⟨5, ![4, 8192, 8, 2, 64]⟩
abbrev S8192x1x1x32 : Shape := ⟨4, ![8192, 1, 1, 32]⟩
abbrev S4x8192x8x2x32 : Shape := ⟨5, ![4, 8192, 8, 2, 32]⟩
abbrev S1x8192x1x1x32 : Shape := ⟨5, ![1, 8192, 1, 1, 32]⟩
abbrev S4x8192x8x2x2x32 : Shape := ⟨6, ![4, 8192, 8, 2, 2, 32]⟩

abbrev nBuf : Space → Nat
  | .hbm => 137
  | .vmem => 0
  | .smem => 0
  | _ => 0

abbrev hbmTy0_0 (i : Nat) : BufTy := match i % 128 with
  | 0 => ⟨S4x8192x1024, .bf16⟩
  | 1 => ⟨S4x8192x1024, .bf16⟩
  | 2 => ⟨S1024x1024, .f32⟩
  | 3 => ⟨S4x8192x1024, .f32⟩
  | 4 => ⟨S4x1024, .f32⟩
  | 5 => ⟨S4x1024, .f32⟩
  | 6 => ⟨S4x1024, .f32⟩
  | 7 => ⟨S1024, .f32⟩
  | 8 => ⟨S1024x4096, .f32⟩
  | 9 => ⟨S4x1x1024, .f32⟩
  | 10 => ⟨S4x8192x1024, .f32⟩
  | 11 => ⟨S4x8192x2x4x2x64, .f32⟩
  | 12 => ⟨S4x8192x2x2x4x64, .f32⟩
  | 13 => ⟨S4x8192x1024, .f32⟩
  | 14 => ⟨S4x8192x1024, .f32⟩
  | 15 => ⟨S4x8192x2x4x2x64, .f32⟩
  | 16 => ⟨S4x8192x2x2x4x64, .f32⟩
  | 17 => ⟨S4x8192x1024, .f32⟩
  | 18 => ⟨S4x8192x1024, .f32⟩
  | 19 => ⟨S4x8192x1024, .f32⟩
  | 20 => ⟨S4x8192x1024, .f32⟩
  | 21 => ⟨S4x8192x1024, .f32⟩
  | 22 => ⟨S4x8192x1024, .f32⟩
  | 23 => ⟨S4x8192x1024, .f32⟩
  | 24 => ⟨S_, .f32⟩
  | 25 => ⟨S4x8192, .f32⟩
  | 26 => ⟨S4x8192x1, .f32⟩
  | 27 => ⟨S_, .f32⟩
  | 28 => ⟨S4x8192x1, .f32⟩
  | 29 => ⟨S4x8192x1, .f32⟩
  | 30 => ⟨S_, .f32⟩
  | 31 => ⟨S4x8192x1, .f32⟩
  | 32 => ⟨S4x8192x1, .f32⟩
  | 33 => ⟨S4x8192x1, .f32⟩
  | 34 => ⟨S4x8192x1024, .f32⟩
  | 35 => ⟨S4x8192x1024, .f32⟩
  | 36 => ⟨S1x1x1024, .f32⟩
  | 37 => ⟨S4x8192x1024, .f32⟩
  | 38 => ⟨S4x8192x1024, .f32⟩
  | 39 => ⟨S4x1x1024, .f32⟩
  | 40 => ⟨S_, .f32⟩
  | 41 => ⟨S4x1x1024, .f32⟩
  | 42 => ⟨S4x1x1024, .f32⟩
  | 43 => ⟨S4x8192x1024, .f32⟩
  | 44 => ⟨S4x8192x1024, .f32⟩
  | 45 => ⟨S4x1x1024, .f32⟩
  | 46 => ⟨S4x8192x1024, .f32⟩
  | 47 => ⟨S4x8192x1024, .f32⟩
  | 48 => ⟨S4x8192x4096, .f32⟩
  | 49 => ⟨S4x8192x1024, .f32⟩
  | 50 => ⟨S4x8192x1024, .f32⟩
  | 51 => ⟨S4x8192x1024, .f32⟩
  | 52 => ⟨S4x8192x1024, .f32⟩
  | 53 => ⟨S32, .f32⟩
  | 54 => ⟨S_, .f32⟩
  | 55 => ⟨S32, .f32⟩
  | 56 => ⟨S32, .f32⟩
  | 57 => ⟨S_, .f32⟩
  | 58 => ⟨S32, .f32⟩
  | 59 => ⟨S32, .f32⟩
  | 60 => ⟨S32, .f32⟩
  | 61 => ⟨S_, .f32⟩
  | 62 => ⟨S32, .f32⟩
  | 63 => ⟨S32, .f32⟩
  | 64 => ⟨S_, .f32⟩
  | 65 => ⟨S32, .f32⟩
  | 66 => ⟨S32, .f32⟩
  | 67 => ⟨S8192, .f32⟩
  | 68 => ⟨S8192x1, .f32⟩
  | 69 => ⟨S1x32, .f32⟩
  | 70 => ⟨S8192x32, .f32⟩
  | 71 => ⟨S8192x32, .f32⟩
  | 72 => ⟨S8192x32, .f32⟩
  | 73 => ⟨S8192x32, .f32⟩
  | 74 => ⟨S8192x32, .f32⟩
  | 75 => ⟨S4x8192x8x2x64, .f32⟩
  | 76 => ⟨S8192x1x1x32, .f32⟩
  | 77 => ⟨S8192x1x1x32, .f32⟩
  | 78 => ⟨S4x8192x8x2x32, .f32⟩
  | 79 => ⟨S4x8192x8x2x32, .f32⟩
  | 80 => ⟨S1x8192x1x1x32, .f32⟩
  | 81 => ⟨S4x8192x8x2x32, .f32⟩
  | 82 => ⟨S4x8192x8x2x32, .f32⟩
  | 83 => ⟨S1x8192x1x1x32, .f32⟩
  | 84 => ⟨S4x8192x8x2x32, .f32⟩
  | 85 => ⟨S4x8192x8x2x32, .f32⟩
  | 86 => ⟨S4x8192x8x2x32, .f32⟩
  | 87 => ⟨S1x8192x1x1x32, .f32⟩
  | 88 => ⟨S4x8192x8x2x32, .f32⟩
  | 89 => ⟨S4x8192x8x2x32, .f32⟩
  | 90 => ⟨S1x8192x1x1x32, .f32⟩
  | 91 => ⟨S4x8192x8x2x32, .f32⟩
  | 92 => ⟨S4x8192x8x2x32, .f32⟩
  | 93 => ⟨S4x8192x8x2x32, .f32⟩
  | 94 => ⟨S4x8192x8x2x64, .f32⟩
  | 95 => ⟨S_, .f32⟩
  | 96 => ⟨S4x8192x8x2x64, .f32⟩
  | 97 => ⟨S4x8192x8x2x64, .f32⟩
  | 98 => ⟨S4x8192x8x2x64, .f32⟩
  | 99 => ⟨S8192x1x1x32, .f32⟩
  | 100 => ⟨S8192x1x1x32, .f32⟩
  | 101 => ⟨S4x8192x8x2x32, .f32⟩
  | 102 => ⟨S4x8192x8x2x32, .f32⟩
  | 103 => ⟨S1x8192x1x1x32, .f32⟩
  | 104 => ⟨S4x8192x8x2x32, .f32⟩
  | 105 => ⟨S4x8192x8x2x32, .f32⟩
  | 106 => ⟨S1x8192x1x1x32, .f32⟩
  | 107 => ⟨S4x8192x8x2x32, .f32⟩
  | 108 => ⟨S4x8192x8x2x32, .f32⟩
  | 109 => ⟨S4x8192x8x2x32, .f32⟩
  | 110 => ⟨S1x8192x1x1x32, .f32⟩
  | 111 => ⟨S4x8192x8x2x32, .f32⟩
  | 112 => ⟨S4x8192x8x2x32, .f32⟩
  | 113 => ⟨S1x8192x1x1x32, .f32⟩
  | 114 => ⟨S4x8192x8x2x32, .f32⟩
  | 115 => ⟨S4x8192x8x2x32, .f32⟩
  | 116 => ⟨S4x8192x8x2x32, .f32⟩
  | 117 => ⟨S4x8192x8x2x64, .f32⟩
  | 118 => ⟨S4x8192x8x2x2x32, .f32⟩
  | 119 => ⟨S4x8192x8x2x2x32, .f32⟩
  | 120 => ⟨S4x8192x1024, .f32⟩
  | 121 => ⟨S4x8192x1024, .bf16⟩
  | 122 => ⟨S4x8192x8x2x2x32, .f32⟩
  | 123 => ⟨S4x8192x8x2x2x32, .f32⟩
  | 124 => ⟨S4x8192x1024, .f32⟩
  | 125 => ⟨S4x8192x1024, .bf16⟩
  | 126 => ⟨S4x8192x1024, .bf16⟩
  | 127 => ⟨S4x8192x1024, .f32⟩
  | _ => ⟨S4x8192x1024, .bf16⟩

abbrev hbmTy0_1 (i : Nat) : BufTy := match i % 128 with
  | 0 => ⟨S4x8192x1024, .f32⟩
  | 1 => ⟨S_, .f32⟩
  | 2 => ⟨S4x8192x1024, .f32⟩
  | 3 => ⟨S4x8192x1024, .f32⟩
  | 4 => ⟨S_, .f32⟩
  | 5 => ⟨S4x8192x1024, .f32⟩
  | 6 => ⟨S4x8192x1024, .f32⟩
  | 7 => ⟨S4x8192x1024, .f32⟩
  | 8 => ⟨S4x8192x1024, .bf16⟩
  | _ => ⟨S4x8192x1024, .bf16⟩

abbrev hbmTy (i : Nat) : BufTy := match i / 128 with
  | 0 => hbmTy0_0 i
  | 1 => hbmTy0_1 i
  | _ => ⟨S4x8192x1024, .bf16⟩

abbrev bufTy : (tb : Table) → Fin (tcTables nBuf tb) → BufTy
  | .hbm, ⟨i, _⟩ => hbmTy i
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_7 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_call0_v0 : Ref sig .tc := ⟨.hbm, 127, rfl⟩
abbrev main_call0_v1 : Ref sig .tc := ⟨.hbm, 128, rfl⟩
abbrev main_call0_cst : Ref sig .tc := ⟨.hbm, 129, rfl⟩
abbrev main_call0_v2 : Ref sig .tc := ⟨.hbm, 130, rfl⟩
abbrev main_call0_v3 : Ref sig .tc := ⟨.hbm, 131, rfl⟩
abbrev main_call0_cst_0 : Ref sig .tc := ⟨.hbm, 132, rfl⟩
abbrev main_call0_v4 : Ref sig .tc := ⟨.hbm, 133, rfl⟩
abbrev main_call0_v5 : Ref sig .tc := ⟨.hbm, 134, rfl⟩
abbrev main_v109 : Ref sig .tc := ⟨.hbm, 135, rfl⟩
abbrev main_v110 : Ref sig .tc := ⟨.hbm, 136, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x1024 : Shape := ⟨2, ![4, 1024]⟩
abbrev S1024 : Shape := ⟨1, ![1024]⟩
abbrev S1024x4096 : Shape := ⟨2, ![1024, 4096]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S4x512x128 : Shape := ⟨3, ![4, 512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x4096, .f32⟩
  | .hbm, ⟨5, _⟩ => ⟨S4x1x1024, .f32⟩
  | .hbm, ⟨6, _⟩ => ⟨S4x1x1024, .f32⟩
  | .hbm, ⟨7, _⟩ => ⟨S1x1024, .f32⟩
  | .hbm, ⟨8, _⟩ => ⟨S1024x4096, .bf16⟩
  | .hbm, ⟨9, _⟩ => ⟨S4x8192x1024, .bf16⟩
  | .hbm, ⟨10, _⟩ => ⟨S4x8192x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x4096, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S512x1024, .bf16⟩
  | .local _ .vmem, ⟨13, _⟩ => ⟨S4x512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x8192x1024 : Shape := ⟨3, ![4, 8192, 1024]⟩
abbrev S4x1024 : Shape := ⟨2, ![4, 1024]⟩
abbrev S1024 : Shape := ⟨1, ![1024]⟩
abbrev S1024x4096 : Shape := ⟨2, ![1024, 4096]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x4096 : Shape := ⟨3, ![4, 8192, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x4096, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x4096, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .bf16⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192x1024, .f32⟩
  | .hbm, ⟨41, _⟩ => ⟨S4x8192x1024, .f32⟩
  | .hbm, ⟨42, _⟩ => ⟨S_, .f32⟩
  | .hbm, ⟨43, _⟩ => ⟨S4x8192x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024x1024 : Shape := ⟨2, ![1024, 1024]⟩
abbrev S4x1024 : Shape := ⟨2, ![4, 1024]⟩
abbrev S1024 : Shape := ⟨1, ![1024]⟩
abbrev S4x1x1024 : Shape := ⟨3, ![4, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S1024x1024, .f32⟩
  | .hbm, ⟨3, _⟩ => ⟨S4x8192x1024, .f32⟩
  | .hbm, ⟨4, _⟩ => ⟨S4x1024, .f32⟩
  | .hbm, ⟨5, _⟩ => ⟨S1024, .f32⟩
  | .hbm, ⟨6, _⟩ => ⟨S4x1x1024, .f32⟩
  | .hbm, ⟨7, _⟩ => ⟨S1024x1024, .bf16⟩
  | .hbm, ⟨8, _⟩ => ⟨S1x1024, .f32⟩
  | .hbm, ⟨9, _⟩ => ⟨S4x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S4x8192x1024 : Shape := ⟨3, ![4, 8192, 1024]⟩
abbrev S1024x1024 : Shape := ⟨2, ![1024, 1024]⟩
abbrev S4x1024 : Shape := ⟨2, ![4, 1024]⟩
abbrev S1024 : Shape := ⟨1, ![1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S1024x1024, .f32⟩
  | .hbm, ⟨3, _⟩ => ⟨S4x8192x1024, .f32⟩
  | .hbm, ⟨4, _⟩ => ⟨S4x1024, .f32⟩
  | .hbm, ⟨5, _⟩ => ⟨S1024, .f32⟩
  | .hbm, ⟨6, _⟩ => ⟨S4x1x1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S4x8192x1024 : Shape := ⟨3, ![4, 8192, 1024]⟩
abbrev S3x1024 : Shape := ⟨2, ![3, 1024]⟩
abbrev S1024x1024 : Shape := ⟨2, ![1024, 1024]⟩
abbrev S4x1024 : Shape := ⟨2, ![4, 1024]⟩
abbrev S4x1x1024 : Shape := ⟨3, ![4, 1, 1024]⟩
abbrev S1x16x1024 : Shape := ⟨3, ![1, 16, 1024]⟩
abbrev S1x512x1024 : Shape := ⟨3, ![1, 512, 1024]⟩
abbrev S1x1x1024 : Shape := ⟨3, ![1, 1, 1024]⟩
abbrev S544x1024 : Shape := ⟨2, ![544, 1024]⟩
abbrev S16x1024 : Shape := ⟨2, ![16, 1024]⟩
abbrev S512x1024 : Shape := ⟨2, ![512, 1024]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S3x1024, .f32⟩
  | .hbm, ⟨3, _⟩ => ⟨S1024x1024, .f32⟩
  | .hbm, ⟨4, _⟩ => ⟨S4x8192x1024, .f32⟩
  | .hbm, ⟨5, _⟩ => ⟨S4x1024, .f32⟩
  | .hbm, ⟨6, _⟩ => ⟨S4x1x1024, .f32⟩
  | .hbm, ⟨7, _⟩ => ⟨S1024x1024, .bf16⟩
  | .hbm, ⟨8, _⟩ => ⟨S4x8192x1024, .f32⟩
  | .local _ .vmem, ⟨0, _⟩ => ⟨S1x16x1024, .bf16⟩
  | .local _ .vmem, ⟨1, _⟩ => ⟨S1x16x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S3x1024, .f32⟩
  | .local _ .vmem, ⟨9, _⟩ => ⟨S1024x1024, .bf16⟩
  | .local _ .vmem, ⟨10, _⟩ => ⟨S1x512x1024, .f32⟩
  | .local _ .vmem, ⟨11, _⟩ => ⟨S1x512x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x512x1024, .f32⟩
  | .local _ .vmem, ⟨15, _⟩ => ⟨S1x512x1024, .f32⟩
  | .local _ .vmem, ⟨16, _⟩ => ⟨S544x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S4x8192x1024 : Shape := ⟨3, ![4, 8192, 1024]⟩
abbrev S3x1024 : Shape := ⟨2, ![3, 1024]⟩
abbrev S1024x1024 : Shape := ⟨2, ![1024, 1024]⟩
abbrev S4x1024 : Shape := ⟨2, ![4, 1024]⟩
abbrev S_ : Shape := ⟨0, ![]⟩
abbrev S4x8194x1024 : Shape := ⟨3, ![4, 8194, 1024]⟩
abbrev S1x1024 : Shape := ⟨2, ![1, 1024]⟩
abbrev S1024 : Shape := ⟨1, ![1024]⟩
abbrev S1x1x1024 : Shape := ⟨3, ![1, 1, 1024]⟩
abbrev S4x1x1024 : Shape := ⟨3, ![4, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S3x1024, .f32⟩
  | .hbm, ⟨3, _⟩ => ⟨S1024x1024, .f32⟩
  | .hbm, ⟨4, _⟩ => ⟨S4x8192x1024, .f32⟩
  | .hbm, ⟨5, _⟩ => ⟨S4x1024, .f32⟩
  | .hbm, ⟨6, _⟩ => ⟨S4x8192x1024, .f32⟩
  | .hbm, ⟨7, _⟩ => ⟨S_, .i32⟩
  | .hbm, ⟨8, _⟩ => ⟨S_, .f32⟩
  | .hbm, ⟨9, _⟩ => ⟨S4x8194x1024, .f32⟩
  | .hbm, ⟨10, _⟩ => ⟨S4x8192x1024, .f32⟩
  | .hbm, ⟨11, _⟩ => ⟨S1x1024, .f32⟩
  | .hbm, ⟨12, _⟩ => ⟨S1024, .f32⟩
  | .hbm, ⟨13, _⟩ => ⟨S1x1x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S4x8192x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S4x8192x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S4x8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.Model.lean ====
/- One grid point of the attention kernel as a fold over its eight key tiles: the payloads that the kernel's text spells
   once per tile are shown equal to one family, and the block a point writes is the fold's result, normalised. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe

variable {F : FTy → Type} [FloatOps F]

/-! ## The payloads of every tile are those of one tile -/

theorem pay27_eq : @k0_pay27 F _ = k0_pay26 := rfl
theorem pay28_eq : @k0_pay28 F _ = k0_pay26 := rfl
theorem pay36_eq : @k0_pay36 F _ = k0_pay26 := rfl
theorem pay44_eq : @k0_pay44 F _ = k0_pay26 := rfl
theorem pay51_eq : @k0_pay51 F _ = k0_pay26 := rfl
theorem pay59_eq : @k0_pay59 F _ = k0_pay26 := rfl
theorem pay67_eq : @k0_pay67 F _ = k0_pay26 := rfl

theorem pay31_eq (S : Vec F S1x1024x1024 .f32) : k0_pay31 S = k0_pay46 k0_pay29 S := rfl
theorem pay32_eq (S : Vec F S1x1024x1024 .f32) : k0_pay32 S = k0_pay47 k0_pay29 S := rfl
theorem pay33_eq (S : Vec F S1x1024x1024 .f32) : k0_pay33 S = k0_pay48 k0_pay29 S := rfl
theorem pay35_eq (V : Vec F S1x144x1024 .bf16) (P : Vec F S1x1024x1024 .bf16) : k0_pay35 (k0_pay34 V) P = k0_pay43 V P := rfl
theorem pay38_eq : @k0_pay38 F _ = k0_pay46 := rfl
theorem pay40_eq (m : FVec F S1x1024 .f32) (S : Vec F S1x1024x1024 .f32) : k0_pay40 (k0_pay39 m S) = k0_pay47 m S := rfl
theorem pay41_eq (m : FVec F S1x1024 .f32) (S : Vec F S1x1024x1024 .f32) : k0_pay41 m (k0_pay46 m S) = k0_pay48 m S := rfl
theorem pay42_eq : @k0_pay42 F _ = k0_pay49 := rfl
theorem pay50_eq : @k0_pay50 F _ = k0_pay43 := rfl
theorem pay54_eq (m : FVec F S1x1024 .f32) (S : Vec F S1x1024x1024 .f32) : k0_pay54 m (k0_pay53 S) = k0_pay46 m S := rfl
theorem pay55_eq (m : FVec F S1x1024 .f32) (S : Vec F S1x1024x1024 .f32) : k0_pay55 m (k0_pay52 S) (k0_pay53 S) = k0_pay47 m S := rfl
theorem pay56_eq (m : FVec F S1x1024 .f32) (S : Vec F S1x1024x1024 .f32) : k0_pay56 m (k0_pay53 S) = k0_pay48 m S := rfl
theorem pay57_eq : @k0_pay57 F _ = k0_pay49 := rfl
theorem pay58_eq : @k0_pay58 F _ = k0_pay43 := rfl
theorem pay61_eq : @k0_pay61 F _ = k0_pay46 := rfl
theorem pay62_eq : @k0_pay62 F _ = k0_pay47 := rfl
theorem pay63_eq : @k0_pay63 F _ = k0_pay48 := rfl
theorem pay64_eq : @k0_pay64 F _ = k0_pay49 := rfl
theorem pay66_eq (V : Vec F S1x144x1024 .bf16) (P : Vec F S1x1024x1024 .bf16) : k0_pay66 (k0_pay65 V) P = k0_pay43 V P := rfl
theorem pay69_eq : @k0_pay69 F _ = k0_pay46 := rfl
theorem pay70_eq : @k0_pay70 F _ = k0_pay47 := rfl
theorem pay71_eq (m : FVec F S1x1024 .f32) (S : Vec F S1x1024x1024 .f32) : k0_pay71 m (k0_pay46 m S) = k0_pay48 m S := rfl
theorem pay72_eq : @k0_pay72 F _ = k0_pay49 := rfl
theorem pay73_eq : @k0_pay73 F _ = k0_pay43 := rfl
theorem pay75_eq : @k0_pay75 F _ = k0_pay46 := rfl
theorem pay77_eq (m : FVec F S1x1024 .f32) (S : Vec F S1x1024x1024 .f32) : k0_pay77 (k0_pay76 m S) = k0_pay47 m S := rfl
theorem pay78_eq (m : FVec F S1x1024 .f32) (S : Vec F S1x1024x1024 .f32) : k0_pay78 m (k0_pay46 m S) = k0_pay48 m S := rfl
theorem pay79_eq : @k0_pay79 F _ = k0_pay49 := rfl
theorem pay80_eq : @k0_pay80 F _ = k0_pay43 := rfl
theorem pay83_eq (m : FVec F S1x1024 .f32) (S : Vec F S1x1024x1024 .f32) : k0_pay83 m (k0_pay82 S) = k0_pay46 m S := rfl
theorem pay84_eq (m : FVec F S1x1024 .f32) (S : Vec F S1x1024x1024 .f32) : k0_pay84 m (k0_pay81 S) (k0_pay82 S) = k0_pay47 m S := rfl
theorem pay85_eq : @k0_pay85 F _ = k0_pay49 := rfl
theorem pay86_eq (m : FVec F S1x1024 .f32) (S : Vec F S1x1024x1024 .f32) (A : Vec F S144x1024 .f32) (V : Vec F S1x144x1024 .bf16)
    (P : Vec F S1x1024x1024 .bf16) : k0_pay86 m (k0_pay82 S) A V P = k0_pay49 (k0_pay48 m S) (k0_pay43 V P) A := rfl

/-! ## The fold -/

/-- The two stores of a block's queries, transposed: component 1's columns, then component 0's, each with the other
    component's rows zeroed. -/
def queryPieces (x2 : Vec F S1x512x128 .bf16) : List (View.Piece (Elt F) S128x1024 .bf16) :=
  [⟨Rect.unit ![0, 512] ![128, 512] inb_S128x1024_S128x512_0_512, k0_pay24 (k0_pay23 x2)⟩,
    ⟨Rect.unit ![0, 0] ![128, 512] inb_S128x1024_S128x512_0_0, k0_pay22 x2⟩]

/-- The queries of a block, transposed, the two components side by side. -/
def queries (x2 : Vec F S1x512x128 .bf16) : Vec F S128x1024 .bf16 :=
  View.ld (View.canon (queryPieces x2)) (Rect.unit ![0, 0] ![128, 1024] inb_S128x1024_S128x1024_0_0)

/-- The scores of one key tile against the queries. -/
def scores (x2 : Vec F S1x512x128 .bf16) (K : Vec F S1x1024x128 .bf16) : Vec F S1x1024x1024 .f32 := k0_pay26 K (queries x2)

/-- One tile: the new running maximum, and the accumulator rescaled and added into. -/
def step (s : FVec F S1x1024 .f32 × Vec F S144x1024 .f32) (S : Vec F S1x1024x1024 .f32) (V : Vec F S1x144x1024 .bf16) :
    FVec F S1x1024 .f32 × Vec F S144x1024 .f32 :=
  (k0_pay46 s.1 S, k0_pay49 (k0_pay48 s.1 S) (k0_pay43 V (k0_pay47 s.1 S)) s.2)

theorem inbK (j : Fin 8) : ∀ a, (![0, 1024 * j.val, 0] : Fin 3 → ℕ) a + (![1, 1024, 128] : Fin 3 → ℕ) a ≤ S1x8192x128.size a := by
  revert j; decide
theorem inbV (j : Fin 8) : ∀ a, (![j.val, 0, 0] : Fin 3 → ℕ) a + (![1, 144, 1024] : Fin 3 → ℕ) a ≤ S8x144x1024.size a := by
  revert j; decide

/-- Key tile `j` of a head's keys. -/
def ktile (x3 : Vec F S1x8192x128 .bf16) (j : Fin 8) : Vec F S1x1024x128 .bf16 :=
  View.ld x3 (Rect.unit ![0, 1024 * j.val, 0] ![1, 1024, 128] (inbK j))

/-- Value tile `j`, transposed, with its rows of ones. -/
def vtile (W : Vec F S8x144x1024 .bf16) (j : Fin 8) : Vec F S1x144x1024 .bf16 :=
  View.ld W (Rect.unit ![j.val, 0, 0] ![1, 144, 1024] (inbV j))

/-- The state after tile `j`, from the state before it. -/
def stepAt (x2 : Vec F S1x512x128 .bf16) (x3 : Vec F S1x8192x128 .bf16) (W : Vec F S8x144x1024 .bf16)
    (s : FVec F S1x1024 .f32 × Vec F S144x1024 .f32) (j : Fin 8) : FVec F S1x1024 .f32 × Vec F S144x1024 .f32 :=
  step s (scores x2 (ktile x3 j)) (vtile W j)

/-- The state after all eight tiles. -/
def final (x2 : Vec F S1x512x128 .bf16) (x3 : Vec F S1x8192x128 .bf16) (W : Vec F S8x144x1024 .bf16) :
    FVec F S1x1024 .f32 × Vec F S144x1024 .f32 :=
  stepAt x2 x3 W (stepAt x2 x3 W (stepAt x2 x3 W (stepAt x2 x3 W (stepAt x2 x3 W (stepAt x2 x3 W (stepAt x2 x3 W
    (stepAt x2 x3 W (k0_pay29, k0_pay25) 0) 1) 2) 3) 4) 5) 6) 7

/-- The block a point writes, of its input blocks and the transposed values it finds. -/
def blockOut (x0 : Vec F S4x64 .f32) (x1 : Vec F S128x512 .f32) (x2 : Vec F S1x512x128 .bf16) (x3 : Vec F S1x8192x128 .bf16)
    (W : Vec F S8x144x1024 .bf16) : Vec F S1x512x128 .bf16 :=
  k0_pay1 (k0_pay88 x0 (k0_pay87 x0)
    (View.ld (final x2 x3 W).2 (Rect.unit ![0, 0] ![128, 1024] inb_S144x1024_S128x1024_0_0))
    (View.ld (final x2 x3 W).2 (Rect.unit ![128, 0] ![1, 1024] inb_S144x1024_S1x1024_128_0)) x1) k0_pay89

/-! ## The transposed values -/

theorem pay4_eq : @k0_pay4 F _ = k0_pay2 := rfl
theorem pay7_eq (V : Vec F S1x1024x128 .bf16) : k0_pay7 (k0_pay6 V) = k0_pay2 V := rfl
theorem pay9_eq : @k0_pay9 F _ = k0_pay2 := rfl
theorem pay11_eq : @k0_pay11 F _ = k0_pay2 := rfl
theorem pay13_eq : @k0_pay13 F _ = k0_pay2 := rfl
theorem pay15_eq : @k0_pay15 F _ = k0_pay2 := rfl
theorem pay18_eq (V : Vec F S1x1024x128 .bf16) : k0_pay18 (k0_pay17 V) = k0_pay2 V := rfl
theorem pay5_eq : @k0_pay5 F _ = k0_pay3 := rfl
theorem pay8_eq : @k0_pay8 F _ = k0_pay3 := rfl
theorem pay10_eq : @k0_pay10 F _ = k0_pay3 := rfl
theorem pay12_eq : @k0_pay12 F _ = k0_pay3 := rfl
theorem pay14_eq : @k0_pay14 F _ = k0_pay3 := rfl
theorem pay16_eq : @k0_pay16 F _ = k0_pay3 := rfl
theorem pay19_eq : @k0_pay19 F _ = k0_pay3 := rfl

/-- The stores of a head's values: each tile's rows of ones, and the tile transposed; the last store first. -/
def vpieces (x4 : Vec F S1x8192x128 .bf16) : List (View.Piece (Elt F) S8x144x1024 .bf16) :=
  [⟨Rect.unit ![7, 128, 0] ![1, 16, 1024] inb_S8x144x1024_S1x16x1024_7_128_0, k0_pay3⟩,
      ⟨Rect.unit ![7, 0, 0] ![1, 128, 1024] inb_S8x144x1024_S1x128x1024_7_0_0, k0_pay2 (ktile x4 7)⟩,
      ⟨Rect.unit ![6, 128, 0] ![1, 16, 1024] inb_S8x144x1024_S1x16x1024_6_128_0, k0_pay3⟩,
      ⟨Rect.unit ![6, 0, 0] ![1, 128, 1024] inb_S8x144x1024_S1x128x1024_6_0_0, k0_pay2 (ktile x4 6)⟩,
      ⟨Rect.unit ![5, 128, 0] ![1, 16, 1024] inb_S8x144x1024_S1x16x1024_5_128_0, k0_pay3⟩,
      ⟨Rect.unit ![5, 0, 0] ![1, 128, 1024] inb_S8x144x1024_S1x128x1024_5_0_0, k0_pay2 (ktile x4 5)⟩,
      ⟨Rect.unit ![4, 128, 0] ![1, 16, 1024] inb_S8x144x1024_S1x16x1024_4_128_0, k0_pay3⟩,
      ⟨Rect.unit ![4, 0, 0] ![1, 128, 1024] inb_S8x144x1024_S1x128x1024_4_0_0, k0_pay2 (ktile x4 4)⟩,
      ⟨Rect.unit ![3, 128, 0] ![1, 16, 1024] inb_S8x144x1024_S1x16x1024_3_128_0, k0_pay3⟩,
      ⟨Rect.unit ![3, 0, 0] ![1, 128, 1024] inb_S8x144x1024_S1x128x1024_3_0_0, k0_pay2 (ktile x4 3)⟩,
      ⟨Rect.unit ![2, 128, 0] ![1, 16, 1024] inb_S8x144x1024_S1x16x1024_2_128_0, k0_pay3⟩,
      ⟨Rect.unit ![2, 0, 0] ![1, 128, 1024] inb_S8x144x1024_S1x128x1024_2_0_0, k0_pay2 (ktile x4 2)⟩,
      ⟨Rect.unit ![1, 128, 0] ![1, 16, 1024] inb_S8x144x1024_S1x16x1024_1_128_0, k0_pay3⟩,
      ⟨Rect.unit ![1, 0, 0] ![1, 128, 1024] inb_S8x144x1024_S1x128x1024_1_0_0, k0_pay2 (ktile x4 1)⟩,
      ⟨Rect.unit ![0, 128, 0] ![1, 16, 1024] inb_S8x144x1024_S1x16x1024_0_128_0, k0_pay3⟩,
      ⟨Rect.unit ![0, 0, 0] ![1, 128, 1024] inb_S8x144x1024_S1x128x1024_0_0_0, k0_pay2 (ktile x4 0)⟩]

/-- The values of a head, each tile transposed and followed by its rows of ones. -/
def vT (x4 : Vec F S1x8192x128 .bf16) : Vec F S8x144x1024 .bf16 := View.canon (vpieces x4)

theorem vtile_eq0 (W : Vec F S8x144x1024 .bf16) (inb : ∀ a, (![0, 0, 0] : Fin 3 → ℕ) a + (![1, 144, 1024] : Fin 3 → ℕ) a ≤ S8x144x1024.size a) :
    View.ld W (Rect.unit (s := S8x144x1024) ![0, 0, 0] ![1, 144, 1024] inb) = vtile W 0 := rfl
theorem vtile_eq1 (W : Vec F S8x144x1024 .bf16) (inb : ∀ a, (![1, 0, 0] : Fin 3 → ℕ) a + (![1, 144, 1024] : Fin 3 → ℕ) a ≤ S8x144x1024.size a) :
    View.ld W (Rect.unit (s := S8x144x1024) ![1, 0, 0] ![1, 144, 1024] inb) = vtile W 1 := rfl
theorem vtile_eq2 (W : Vec F S8x144x1024 .bf16) (inb : ∀ a, (![2, 0, 0] : Fin 3 → ℕ) a + (![1, 144, 1024] : Fin 3 → ℕ) a ≤ S8x144x1024.size a) :
    View.ld W (Rect.unit (s := S8x144x1024) ![2, 0, 0] ![1, 144, 1024] inb) = vtile W 2 := rfl
theorem vtile_eq3 (W : Vec F S8x144x1024 .bf16) (inb : ∀ a, (![3, 0, 0] : Fin 3 → ℕ) a + (![1, 144, 1024] : Fin 3 → ℕ) a ≤ S8x144x1024.size a) :
    View.ld W (Rect.unit (s := S8x144x1024) ![3, 0, 0] ![1, 144, 1024] inb) = vtile W 3 := rfl
theorem vtile_eq4 (W : Vec F S8x144x1024 .bf16) (inb : ∀ a, (![4, 0, 0] : Fin 3 → ℕ) a + (![1, 144, 1024] : Fin 3 → ℕ) a ≤ S8x144x1024.size a) :
    View.ld W (Rect.unit (s := S8x144x1024) ![4, 0, 0] ![1, 144, 1024] inb) = vtile W 4 := rfl
theorem vtile_eq5 (W : Vec F S8x144x1024 .bf16) (inb : ∀ a, (![5, 0, 0] : Fin 3 → ℕ) a + (![1, 144, 1024] : Fin 3 → ℕ) a ≤ S8x144x1024.size a) :
    View.ld W (Rect.unit (s := S8x144x1024) ![5, 0, 0] ![1, 144, 1024] inb) = vtile W 5 := rfl
theorem vtile_eq6 (W : Vec F S8x144x1024 .bf16) (inb : ∀ a, (![6, 0, 0] : Fin 3 → ℕ) a + (![1, 144, 1024] : Fin 3 → ℕ) a ≤ S8x144x1024.size a) :
    View.ld W (Rect.unit (s := S8x144x1024) ![6, 0, 0] ![1, 144, 1024] inb) = vtile W 6 := rfl
theorem vtile_eq7 (W : Vec F S8x144x1024 .bf16) (inb : ∀ a, (![7, 0, 0] : Fin 3 → ℕ) a + (![1, 144, 1024] : Fin 3 → ℕ) a ≤ S8x144x1024.size a) :
    View.ld W (Rect.unit (s := S8x144x1024) ![7, 0, 0] ![1, 144, 1024] inb) = vtile W 7 := rfl

theorem inbL0 : ∀ a, (![0, 0, 0] : Fin 3 → ℕ) a + (![1, 144, 1024] : Fin 3 → ℕ) a ≤ S8x144x1024.size a := by decide
theorem read_tile0 (v : View sig .tc .vmem S8x144x1024 .bf16) (x4 : Vec F S1x8192x128 .bf16)
    (inb : ∀ a, (![0, 0, 0] : Fin 3 → ℕ) a + (![1, 144, 1024] : Fin 3 → ℕ) a ≤ S8x144x1024.size a) :
    v.readCov [⟨Rect.unit ![0, 128, 0] ![1, 16, 1024] inb_S8x144x1024_S1x16x1024_0_128_0, k0_pay3⟩,
      ⟨Rect.unit ![0, 0, 0] ![1, 128, 1024] inb_S8x144x1024_S1x128x1024_0_0_0, k0_pay2 (ktile x4 0)⟩]
      (Rect.unit (s := S8x144x1024) ![0, 0, 0] ![1, 144, 1024] inb).toLoadRect = vtile (vT x4) 0 := by
  rw [← vtile_eq0 _ inbL0]
  show v.readCov _ (Rect.unit (s := S8x144x1024) ![0, 0, 0] ![1, 144, 1024] inbL0).toLoadRect = _
  have h : v.readCov (vpieces x4) (Rect.unit (s := S8x144x1024) ![0, 0, 0] ![1, 144, 1024] inbL0).toLoadRect = View.ld (vT x4) (Rect.unit (s := S8x144x1024) ![0, 0, 0] ![1, 144, 1024] inbL0) :=
    View.readCov_eq_canon' v _ _
  rw [← h]
  unfold vpieces
  simp (disch := decide) only [↓ View.readCov_skip]

theorem inbL1 : ∀ a, (![1, 0, 0] : Fin 3 → ℕ) a + (![1, 144, 1024] : Fin 3 → ℕ) a ≤ S8x144x1024.size a := by decide
theorem read_tile1 (v : View sig .tc .vmem S8x144x1024 .bf16) (x4 : Vec F S1x8192x128 .bf16)
    (inb : ∀ a, (![1, 0, 0] : Fin 3 → ℕ) a + (![1, 144, 1024] : Fin 3 → ℕ) a ≤ S8x144x1024.size a) :
    v.readCov [⟨Rect.unit ![1, 128, 0] ![1, 16, 1024] inb_S8x144x1024_S1x16x1024_1_128_0, k0_pay3⟩,
      ⟨Rect.unit ![1, 0, 0] ![1, 128, 1024] inb_S8x144x1024_S1x128x1024_1_0_0, k0_pay2 (ktile x4 1)⟩,
      ⟨Rect.unit ![0, 128, 0] ![1, 16, 1024] inb_S8x144x1024_S1x16x1024_0_128_0, k0_pay3⟩,
      ⟨Rect.unit ![0, 0, 0] ![1, 128, 1024] inb_S8x144x1024_S1x128x1024_0_0_0, k0_pay2 (ktile x4 0)⟩]
      (Rect.unit (s := S8x144x1024) ![1, 0, 0] ![1, 144, 1024] inb).toLoadRect = vtile (vT x4) 1 := by
  rw [← vtile_eq1 _ inbL1]
  show v.readCov _ (Rect.unit (s := S8x144x1024) ![1, 0, 0] ![1, 144, 1024] inbL1).toLoadRect = _
  have h : v.readCov (vpieces x4) (Rect.unit (s := S8x144x1024) ![1, 0, 0] ![1, 144, 1024] inbL1).toLoadRect = View.ld (vT x4) (Rect.unit (s := S8x144x1024) ![1, 0, 0] ![1, 144, 1024] inbL1) :=
    View.readCov_eq_canon' v _ _
  rw [← h]
  unfold vpieces
  simp (disch := decide) only [↓ View.readCov_skip]

theorem inbL2 : ∀ a, (![2, 0, 0] : Fin 3 → ℕ) a + (![1, 144, 1024] : Fin 3 → ℕ) a ≤ S8x144x1024.size a := by decide
theorem read_tile2 (v : View sig .tc .vmem S8x144x1024 .bf16) (x4 : Vec F S1x8192x128 .bf16)
    (inb : ∀ a, (![2, 0, 0] : Fin 3 → ℕ) a + (![1, 144, 1024] : Fin 3 → ℕ) a ≤ S8x144x1024.size a) :
    v.readCov [⟨Rect.unit ![2, 128, 0] ![1, 16, 1024] inb_S8x144x1024_S1x16x1024_2_128_0, k0_pay3⟩,
      ⟨Rect.unit ![2, 0, 0] ![1, 128, 1024] inb_S8x144x1024_S1x128x1024_2_0_0, k0_pay2 (ktile x4 2)⟩,
      ⟨Rect.unit ![1, 128, 0] ![1, 16, 1024] inb_S8x144x1024_S1x16x1024_1_128_0, k0_pay3⟩,
      ⟨Rect.unit ![1, 0, 0] ![1, 128, 1024] inb_S8x144x1024_S1x128x1024_1_0_0, k0_pay2 (ktile x4 1)⟩,
      ⟨Rect.unit ![0, 128, 0] ![1, 16, 1024] inb_S8x144x1024_S1x16x1024_0_128_0, k0_pay3⟩,
      ⟨Rect.unit ![0, 0, 0] ![1, 128, 1024] inb_S8x144x1024_S1x128x1024_0_0_0, k0_pay2 (ktile x4 0)⟩]
      (Rect.unit (s := S8x144x1024) ![2, 0, 0] ![1, 144, 1024] inb).toLoadRect = vtile (vT x4) 2 := by
  rw [← vtile_eq2 _ inbL2]
  show v.readCov _ (Rect.unit (s := S8x144x1024) ![2, 0, 0] ![1, 144, 1024] inbL2).toLoadRect = _
  have h : v.readCov (vpieces x4) (Rect.unit (s := S8x144x1024) ![2, 0, 0] ![1, 144, 1024] inbL2).toLoadRect = View.ld (vT x4) (Rect.unit (s := S8x144x1024) ![2, 0, 0] ![1, 144, 1024] inbL2) :=
    View.readCov_eq_canon' v _ _
  rw [← h]
  unfold vpieces
  simp (disch := decide) only [↓ View.readCov_skip]

theorem inbL3 : ∀ a, (![3, 0, 0] : Fin 3 → ℕ) a + (![1, 144, 1024] : Fin 3 → ℕ) a ≤ S8x144x1024.size a := by decide
theorem read_tile3 (v : View sig .tc .vmem S8x144x1024 .bf16) (x4 : Vec F S1x8192x128 .bf16)
    (inb : ∀ a, (![3, 0, 0] : Fin 3 → ℕ) a + (![1, 144, 1024] : Fin 3 → ℕ) a ≤ S8x144x1024.size a) :
    v.readCov [⟨Rect.unit ![3, 128, 0] ![1, 16, 1024] inb_S8x144x1024_S1x16x1024_3_128_0, k0_pay3⟩,
      ⟨Rect.unit ![3, 0, 0] ![1, 128, 1024] inb_S8x144x1024_S1x128x1024_3_0_0, k0_pay2 (ktile x4 3)⟩,
      ⟨Rect.unit ![2, 128, 0] ![1, 16, 1024] inb_S8x144x1024_S1x16x1024_2_128_0, k0_pay3⟩,
      ⟨Rect.unit ![2, 0, 0] ![1, 128, 1024] inb_S8x144x1024_S1x128x1024_2_0_0, k0_pay2 (ktile x4 2)⟩,
      ⟨Rect.unit ![1, 128, 0] ![1, 16, 1024] inb_S8x144x1024_S1x16x1024_1_128_0, k0_pay3⟩,
      ⟨Rect.unit ![1, 0, 0] ![1, 128, 1024] inb_S8x144x1024_S1x128x1024_1_0_0, k0_pay2 (ktile x4 1)⟩,
      ⟨Rect.unit ![0, 128, 0] ![1, 16, 1024] inb_S8x144x1024_S1x16x1024_0_128_0, k0_pay3⟩,
      ⟨Rect.unit ![0, 0, 0] ![1, 128, 1024] inb_S8x144x1024_S1x128x1024_0_0_0, k0_pay2 (ktile x4 0)⟩]
      (Rect.unit (s := S8x144x1024) ![3, 0, 0] ![1, 144, 1024] inb).toLoadRect = vtile (vT x4) 3 := by
  rw [← vtile_eq3 _ inbL3]
  show v.readCov _ (Rect.unit (s := S8x144x1024) ![3, 0, 0] ![1, 144, 1024] inbL3).toLoadRect = _
  have h : v.readCov (vpieces x4) (Rect.unit (s := S8x144x1024) ![3, 0, 0] ![1, 144, 1024] inbL3).toLoadRect = View.ld (vT x4) (Rect.unit (s := S8x144x1024) ![3, 0, 0] ![1, 144, 1024] inbL3) :=
    View.readCov_eq_canon' v _ _
  rw [← h]
  unfold vpieces
  simp (disch := decide) only [↓ View.readCov_skip]

theorem inbL4 : ∀ a, (![4, 0, 0] : Fin 3 → ℕ) a + (![1, 144, 1024] : Fin 3 → ℕ) a ≤ S8x144x1024.size a := by decide
theorem read_tile4 (v : View sig .tc .vmem S8x144x1024 .bf16) (x4 : Vec F S1x8192x128 .bf16)
    (inb : ∀ a, (![4, 0, 0] : Fin 3 → ℕ) a + (![1, 144, 1024] : Fin 3 → ℕ) a ≤ S8x144x1024.size a) :
    v.readCov [⟨Rect.unit ![4, 128, 0] ![1, 16, 1024] inb_S8x144x1024_S1x16x1024_4_128_0, k0_pay3⟩,
      ⟨Rect.unit ![4, 0, 0] ![1, 128, 1024] inb_S8x144x1024_S1x128x1024_4_0_0, k0_pay2 (ktile x4 4)⟩,
      ⟨Rect.unit ![3, 128, 0] ![1, 16, 1024] inb_S8x144x1024_S1x16x1024_3_128_0, k0_pay3⟩,
      ⟨Rect.unit ![3, 0, 0] ![1, 128, 1024] inb_S8x144x1024_S1x128x1024_3_0_0, k0_pay2 (ktile x4 3)⟩,
      ⟨Rect.unit ![2, 128, 0] ![1, 16, 1024] inb_S8x144x1024_S1x16x1024_2_128_0, k0_pay3⟩,
      ⟨Rect.unit ![2, 0, 0] ![1, 128, 1024] inb_S8x144x1024_S1x128x1024_2_0_0, k0_pay2 (ktile x4 2)⟩,
      ⟨Rect.unit ![1, 128, 0] ![1, 16, 1024] inb_S8x144x1024_S1x16x1024_1_128_0, k0_pay3⟩,
      ⟨Rect.unit ![1, 0, 0] ![1, 128, 1024] inb_S8x144x1024_S1x128x1024_1_0_0, k0_pay2 (ktile x4 1)⟩,
      ⟨Rect.unit ![0, 128, 0] ![1, 16, 1024] inb_S8x144x1024_S1x16x1024_0_128_0, k0_pay3⟩,
      ⟨Rect.unit ![0, 0, 0] ![1, 128, 1024] inb_S8x144x1024_S1x128x1024_0_0_0, k0_pay2 (ktile x4 0)⟩]
      (Rect.unit (s := S8x144x1024) ![4, 0, 0] ![1, 144, 1024] inb).toLoadRect = vtile (vT x4) 4 := by
  rw [← vtile_eq4 _ inbL4]
  show v.readCov _ (Rect.unit (s := S8x144x1024) ![4, 0, 0] ![1, 144, 1024] inbL4).toLoadRect = _
  have h : v.readCov (vpieces x4) (Rect.unit (s := S8x144x1024) ![4, 0, 0] ![1, 144, 1024] inbL4).toLoadRect = View.ld (vT x4) (Rect.unit (s := S8x144x1024) ![4, 0, 0] ![1, 144, 1024] inbL4) :=
    View.readCov_eq_canon' v _ _
  rw [← h]
  unfold vpieces
  simp (disch := decide) only [↓ View.readCov_skip]

theorem inbL5 : ∀ a, (![5, 0, 0] : Fin 3 → ℕ) a + (![1, 144, 1024] : Fin 3 → ℕ) a ≤ S8x144x1024.size a := by decide
theorem read_tile5 (v : View sig .tc .vmem S8x144x1024 .bf16) (x4 : Vec F S1x8192x128 .bf16)
    (inb : ∀ a, (![5, 0, 0] : Fin 3 → ℕ) a + (![1, 144, 1024] : Fin 3 → ℕ) a ≤ S8x144x1024.size a) :
    v.readCov [⟨Rect.unit ![5, 128, 0] ![1, 16, 1024] inb_S8x144x1024_S1x16x1024_5_128_0, k0_pay3⟩,
      ⟨Rect.unit ![5, 0, 0] ![1, 128, 1024] inb_S8x144x1024_S1x128x1024_5_0_0, k0_pay2 (ktile x4 5)⟩,
      ⟨Rect.unit ![4, 128, 0] ![1, 16, 1024] inb_S8x144x1024_S1x16x1024_4_128_0, k0_pay3⟩,
      ⟨Rect.unit ![4, 0, 0] ![1, 128, 1024] inb_S8x144x1024_S1x128x1024_4_0_0, k0_pay2 (ktile x4 4)⟩,
      ⟨Rect.unit ![3, 128, 0] ![1, 16, 1024] inb_S8x144x1024_S1x16x1024_3_128_0, k0_pay3⟩,
      ⟨Rect.unit ![3, 0, 0] ![1, 128, 1024] inb_S8x144x1024_S1x128x1024_3_0_0, k0_pay2 (ktile x4 3)⟩,
      ⟨Rect.unit ![2, 128, 0] ![1, 16, 1024] inb_S8x144x1024_S1x16x1024_2_128_0, k0_pay3⟩,
      ⟨Rect.unit ![2, 0, 0] ![1, 128, 1024] inb_S8x144x1024_S1x128x1024_2_0_0, k0_pay2 (ktile x4 2)⟩,
      ⟨Rect.unit ![1, 128, 0] ![1, 16, 1024] inb_S8x144x1024_S1x16x1024_1_128_0, k0_pay3⟩,
      ⟨Rect.unit ![1, 0, 0] ![1, 128, 1024] inb_S8x144x1024_S1x128x1024_1_0_0, k0_pay2 (ktile x4 1)⟩,
      ⟨Rect.unit ![0, 128, 0] ![1, 16, 1024] inb_S8x144x1024_S1x16x1024_0_128_0, k0_pay3⟩,
      ⟨Rect.unit ![0, 0, 0] ![1, 128, 1024] inb_S8x144x1024_S1x128x1024_0_0_0, k0_pay2 (ktile x4 0)⟩]
      (Rect.unit (s := S8x144x1024) ![5, 0, 0] ![1, 144, 1024] inb).toLoadRect = vtile (vT x4) 5 := by
  rw [← vtile_eq5 _ inbL5]
  show v.readCov _ (Rect.unit (s := S8x144x1024) ![5, 0, 0] ![1, 144, 1024] inbL5).toLoadRect = _
  have h : v.readCov (vpieces x4) (Rect.unit (s := S8x144x1024) ![5, 0, 0] ![1, 144, 1024] inbL5).toLoadRect = View.ld (vT x4) (Rect.unit (s := S8x144x1024) ![5, 0, 0] ![1, 144, 1024] inbL5) :=
    View.readCov_eq_canon' v _ _
  rw [← h]
  unfold vpieces
  simp (disch := decide) only [↓ View.readCov_skip]

theorem inbL6 : ∀ a, (![6, 0, 0] : Fin 3 → ℕ) a + (![1, 144, 1024] : Fin 3 → ℕ) a ≤ S8x144x1024.size a := by decide
theorem read_tile6 (v : View sig .tc .vmem S8x144x1024 .bf16) (x4 : Vec F S1x8192x128 .bf16)
    (inb : ∀ a, (![6, 0, 0] : Fin 3 → ℕ) a + (![1, 144, 1024] : Fin 3 → ℕ) a ≤ S8x144x1024.size a) :
    v.readCov [⟨Rect.unit ![6, 128, 0] ![1, 16, 1024] inb_S8x144x1024_S1x16x1024_6_128_0, k0_pay3⟩,
      ⟨Rect.unit ![6, 0, 0] ![1, 128, 1024] inb_S8x144x1024_S1x128x1024_6_0_0, k0_pay2 (ktile x4 6)⟩,
      ⟨Rect.unit ![5, 128, 0] ![1, 16, 1024] inb_S8x144x1024_S1x16x1024_5_128_0, k0_pay3⟩,
      ⟨Rect.unit ![5, 0, 0] ![1, 128, 1024] inb_S8x144x1024_S1x128x1024_5_0_0, k0_pay2 (ktile x4 5)⟩,
      ⟨Rect.unit ![4, 128, 0] ![1, 16, 1024] inb_S8x144x1024_S1x16x1024_4_128_0, k0_pay3⟩,
      ⟨Rect.unit ![4, 0, 0] ![1, 128, 1024] inb_S8x144x1024_S1x128x1024_4_0_0, k0_pay2 (ktile x4 4)⟩,
      ⟨Rect.unit ![3, 128, 0] ![1, 16, 1024] inb_S8x144x1024_S1x16x1024_3_128_0, k0_pay3⟩,
      ⟨Rect.unit ![3, 0, 0] ![1, 128, 1024] inb_S8x144x1024_S1x128x1024_3_0_0, k0_pay2 (ktile x4 3)⟩,
      ⟨Rect.unit ![2, 128, 0] ![1, 16, 1024] inb_S8x144x1024_S1x16x1024_2_128_0, k0_pay3⟩,
      ⟨Rect.unit ![2, 0, 0] ![1, 128, 1024] inb_S8x144x1024_S1x128x1024_2_0_0, k0_pay2 (ktile x4 2)⟩,
      ⟨Rect.unit ![1, 128, 0] ![1, 16, 1024] inb_S8x144x1024_S1x16x1024_1_128_0, k0_pay3⟩,
      ⟨Rect.unit ![1, 0, 0] ![1, 128, 1024] inb_S8x144x1024_S1x128x1024_1_0_0, k0_pay2 (ktile x4 1)⟩,
      ⟨Rect.unit ![0, 128, 0] ![1, 16, 1024] inb_S8x144x1024_S1x16x1024_0_128_0, k0_pay3⟩,
      ⟨Rect.unit ![0, 0, 0] ![1, 128, 1024] inb_S8x144x1024_S1x128x1024_0_0_0, k0_pay2 (ktile x4 0)⟩]
      (Rect.unit (s := S8x144x1024) ![6, 0, 0] ![1, 144, 1024] inb).toLoadRect = vtile (vT x4) 6 := by
  rw [← vtile_eq6 _ inbL6]
  show v.readCov _ (Rect.unit (s := S8x144x1024) ![6, 0, 0] ![1, 144, 1024] inbL6).toLoadRect = _
  have h : v.readCov (vpieces x4) (Rect.unit (s := S8x144x1024) ![6, 0, 0] ![1, 144, 1024] inbL6).toLoadRect = View.ld (vT x4) (Rect.unit (s := S8x144x1024) ![6, 0, 0] ![1, 144, 1024] inbL6) :=
    View.readCov_eq_canon' v _ _
  rw [← h]
  unfold vpieces
  simp (disch := decide) only [↓ View.readCov_skip]

theorem inbL7 : ∀ a, (![7, 0, 0] : Fin 3 → ℕ) a + (![1, 144, 1024] : Fin 3 → ℕ) a ≤ S8x144x1024.size a := by decide
theorem read_tile7 (v : View sig .tc .vmem S8x144x1024 .bf16) (x4 : Vec F S1x8192x128 .bf16)
    (inb : ∀ a, (![7, 0, 0] : Fin 3 → ℕ) a + (![1, 144, 1024] : Fin 3 → ℕ) a ≤ S8x144x1024.size a) :
    v.readCov [⟨Rect.unit ![7, 128, 0] ![1, 16, 1024] inb_S8x144x1024_S1x16x1024_7_128_0, k0_pay3⟩,
      ⟨Rect.unit ![7, 0, 0] ![1, 128, 1024] inb_S8x144x1024_S1x128x1024_7_0_0, k0_pay2 (ktile x4 7)⟩,
      ⟨Rect.unit ![6, 128, 0] ![1, 16, 1024] inb_S8x144x1024_S1x16x1024_6_128_0, k0_pay3⟩,
      ⟨Rect.unit ![6, 0, 0] ![1, 128, 1024] inb_S8x144x1024_S1x128x1024_6_0_0, k0_pay2 (ktile x4 6)⟩,
      ⟨Rect.unit ![5, 128, 0] ![1, 16, 1024] inb_S8x144x1024_S1x16x1024_5_128_0, k0_pay3⟩,
      ⟨Rect.unit ![5, 0, 0] ![1, 128, 1024] inb_S8x144x1024_S1x128x1024_5_0_0, k0_pay2 (ktile x4 5)⟩,
      ⟨Rect.unit ![4, 128, 0] ![1, 16, 1024] inb_S8x144x1024_S1x16x1024_4_128_0, k0_pay3⟩,
      ⟨Rect.unit ![4, 0, 0] ![1, 128, 1024] inb_S8x144x1024_S1x128x1024_4_0_0, k0_pay2 (ktile x4 4)⟩,
      ⟨Rect.unit ![3, 128, 0] ![1, 16, 1024] inb_S8x144x1024_S1x16x1024_3_128_0, k0_pay3⟩,
      ⟨Rect.unit ![3, 0, 0] ![1, 128, 1024] inb_S8x144x1024_S1x128x1024_3_0_0, k0_pay2 (ktile x4 3)⟩,
      ⟨Rect.unit ![2, 128, 0] ![1, 16, 1024] inb_S8x144x1024_S1x16x1024_2_128_0, k0_pay3⟩,
      ⟨Rect.unit ![2, 0, 0] ![1, 128, 1024] inb_S8x144x1024_S1x128x1024_2_0_0, k0_pay2 (ktile x4 2)⟩,
      ⟨Rect.unit ![1, 128, 0] ![1, 16, 1024] inb_S8x144x1024_S1x16x1024_1_128_0, k0_pay3⟩,
      ⟨Rect.unit ![1, 0, 0] ![1, 128, 1024] inb_S8x144x1024_S1x128x1024_1_0_0, k0_pay2 (ktile x4 1)⟩,
      ⟨Rect.unit ![0, 128, 0] ![1, 16, 1024] inb_S8x144x1024_S1x16x1024_0_128_0, k0_pay3⟩,
      ⟨Rect.unit ![0, 0, 0] ![1, 128, 1024] inb_S8x144x1024_S1x128x1024_0_0_0, k0_pay2 (ktile x4 0)⟩]
      (Rect.unit (s := S8x144x1024) ![7, 0, 0] ![1, 144, 1024] inb).toLoadRect = vtile (vT x4) 7 := by
  rw [← vtile_eq7 _ inbL7]
  show v.readCov _ (Rect.unit (s := S8x144x1024) ![7, 0, 0] ![1, 144, 1024] inbL7).toLoadRect = _
  have h : v.readCov (vpieces x4) (Rect.unit (s := S8x144x1024) ![7, 0, 0] ![1, 144, 1024] inbL7).toLoadRect = View.ld (vT x4) (Rect.unit (s := S8x144x1024) ![7, 0, 0] ![1, 144, 1024] inbL7) :=
    View.readCov_eq_canon' v _ _
  rw [← h]
  unfold vpieces
  simp (disch := decide) only [↓ View.readCov_skip]

/-! ## Reading the run -/

theorem ktile_eq0 (x3 : Vec F S1x8192x128 .bf16) (inb : ∀ a, (![0, 0, 0] : Fin 3 → ℕ) a + (![1, 1024, 128] : Fin 3 → ℕ) a ≤ S1x8192x128.size a) :
    View.ld x3 (Rect.unit (s := S1x8192x128) ![0, 0, 0] ![1, 1024, 128] inb) = ktile x3 0 := rfl
theorem ktile_eq1 (x3 : Vec F S1x8192x128 .bf16) (inb : ∀ a, (![0, 1024, 0] : Fin 3 → ℕ) a + (![1, 1024, 128] : Fin 3 → ℕ) a ≤ S1x8192x128.size a) :
    View.ld x3 (Rect.unit (s := S1x8192x128) ![0, 1024, 0] ![1, 1024, 128] inb) = ktile x3 1 := rfl
theorem ktile_eq2 (x3 : Vec F S1x8192x128 .bf16) (inb : ∀ a, (![0, 2048, 0] : Fin 3 → ℕ) a + (![1, 1024, 128] : Fin 3 → ℕ) a ≤ S1x8192x128.size a) :
    View.ld x3 (Rect.unit (s := S1x8192x128) ![0, 2048, 0] ![1, 1024, 128] inb) = ktile x3 2 := rfl
theorem ktile_eq3 (x3 : Vec F S1x8192x128 .bf16) (inb : ∀ a, (![0, 3072, 0] : Fin 3 → ℕ) a + (![1, 1024, 128] : Fin 3 → ℕ) a ≤ S1x8192x128.size a) :
    View.ld x3 (Rect.unit (s := S1x8192x128) ![0, 3072, 0] ![1, 1024, 128] inb) = ktile x3 3 := rfl
theorem ktile_eq4 (x3 : Vec F S1x8192x128 .bf16) (inb : ∀ a, (![0, 4096, 0] : Fin 3 → ℕ) a + (![1, 1024, 128] : Fin 3 → ℕ) a ≤ S1x8192x128.size a) :
    View.ld x3 (Rect.unit (s := S1x8192x128) ![0, 4096, 0] ![1, 1024, 128] inb) = ktile x3 4 := rfl
theorem ktile_eq5 (x3 : Vec F S1x8192x128 .bf16) (inb : ∀ a, (![0, 5120, 0] : Fin 3 → ℕ) a + (![1, 1024, 128] : Fin 3 → ℕ) a ≤ S1x8192x128.size a) :
    View.ld x3 (Rect.unit (s := S1x8192x128) ![0, 5120, 0] ![1, 1024, 128] inb) = ktile x3 5 := rfl
theorem ktile_eq6 (x3 : Vec F S1x8192x128 .bf16) (inb : ∀ a, (![0, 6144, 0] : Fin 3 → ℕ) a + (![1, 1024, 128] : Fin 3 → ℕ) a ≤ S1x8192x128.size a) :
    View.ld x3 (Rect.unit (s := S1x8192x128) ![0, 6144, 0] ![1, 1024, 128] inb) = ktile x3 6 := rfl
theorem ktile_eq7 (x3 : Vec F S1x8192x128 .bf16) (inb : ∀ a, (![0, 7168, 0] : Fin 3 → ℕ) a + (![1, 1024, 128] : Fin 3 → ℕ) a ≤ S1x8192x128.size a) :
    View.ld x3 (Rect.unit (s := S1x8192x128) ![0, 7168, 0] ![1, 1024, 128] inb) = ktile x3 7 := rfl
theorem queries_eq (v : View sig .tc .vmem S128x1024 .bf16) (x2 : Vec F S1x512x128 .bf16) :
    v.readCov [⟨Rect.unit ![0, 512] ![128, 512] inb_S128x1024_S128x512_0_512, k0_pay24 (k0_pay23 x2)⟩,
      ⟨Rect.unit ![0, 0] ![128, 512] inb_S128x1024_S128x512_0_0, k0_pay22 x2⟩]
      (Rect.unit ![0, 0] ![128, 1024] inb_S128x1024_S128x1024_0_0).toLoadRect = queries x2 :=
  View.readCov_eq_canon' v (queryPieces x2) _

variable (m : (ℓ : Loc nD τ sig) → Buf (Elt F) ℓ)

theorem openB (c : Dev nD) (t : Fin cfg0.N) (h0 : ¬t.val % 16 = 0) (xs : Vec F S8x144x1024 .bf16) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (iblk m c 0 t) (iblk m c 1 t) (iblk m c 2 t) (iblk m c 3 t) (iblk m c 4 t) xs
      = blockOut (iblk m c 0 t) (iblk m c 1 t) (iblk m c 2 t) (iblk m c 3 t) xs := by
  frame_open
  simp (disch := decide) only [↓ View.readCov_skip, ↓ View.readCov_cons_toLoadRect, ↓ View.readCov_fill]
  frame_out
  simp only [read_unread_whole, pay27_eq, pay28_eq, pay36_eq, pay44_eq, pay51_eq, pay59_eq, pay67_eq, pay31_eq, pay32_eq, pay33_eq, pay35_eq,
    pay38_eq, pay40_eq, pay41_eq, pay42_eq, pay50_eq, pay54_eq, pay55_eq, pay56_eq, pay57_eq, pay58_eq, pay61_eq, pay62_eq, pay63_eq, pay64_eq, pay66_eq,
    pay69_eq, pay70_eq, pay71_eq, pay72_eq, pay73_eq, pay75_eq, pay77_eq, pay78_eq, pay79_eq, pay80_eq, pay83_eq, pay84_eq, pay85_eq, pay86_eq,
    queries_eq, ktile_eq0, ktile_eq1, ktile_eq2, ktile_eq3, ktile_eq4, ktile_eq5, ktile_eq6, ktile_eq7,
    vtile_eq0, vtile_eq1, vtile_eq2, vtile_eq3, vtile_eq4, vtile_eq5, vtile_eq6, vtile_eq7]
  unfold blockOut
  simp only [final, stepAt, step, scores]
  rfl

theorem openS (c : Dev nD) (t : Fin cfg0.N) (h0 : t.val % 16 = 0) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t) = vT (iblk m c 4 t) := by
  frame_open
  frame_out
  simp only [pay4_eq, pay7_eq, pay9_eq, pay11_eq, pay13_eq, pay15_eq, pay18_eq, pay5_eq, pay8_eq, pay10_eq, pay12_eq, pay14_eq, pay16_eq, pay19_eq,
    ktile_eq0, ktile_eq1, ktile_eq2, ktile_eq3, ktile_eq4, ktile_eq5, ktile_eq6, ktile_eq7]
  rfl

theorem openA (c : Dev nD) (t : Fin cfg0.N) (h0 : t.val % 16 = 0) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) ((hcond0_0 t).mpr h0) (iblk m c 0 t) (iblk m c 1 t) (iblk m c 2 t) (iblk m c 3 t) (iblk m c 4 t)
      = blockOut (iblk m c 0 t) (iblk m c 1 t) (iblk m c 2 t) (iblk m c 3 t) (vT (iblk m c 4 t)) := by
  frame_open
  simp (disch := decide) only [↓ View.readCov_skip, ↓ View.readCov_cons_toLoadRect, ↓ View.readCov_fill]
  frame_out
  simp only [pay27_eq, pay28_eq, pay36_eq, pay44_eq, pay51_eq, pay59_eq, pay67_eq, pay31_eq, pay32_eq, pay33_eq, pay35_eq,
    pay38_eq, pay40_eq, pay41_eq, pay42_eq, pay50_eq, pay54_eq, pay55_eq, pay56_eq, pay57_eq, pay58_eq, pay61_eq, pay62_eq, pay63_eq, pay64_eq, pay66_eq,
    pay69_eq, pay70_eq, pay71_eq, pay72_eq, pay73_eq, pay75_eq, pay77_eq, pay78_eq, pay79_eq, pay80_eq, pay83_eq, pay84_eq, pay85_eq, pay86_eq,
    queries_eq, ktile_eq0, ktile_eq1, ktile_eq2, ktile_eq3, ktile_eq4, ktile_eq5, ktile_eq6, ktile_eq7]
  simp only [pay4_eq, pay7_eq, pay9_eq, pay11_eq, pay13_eq, pay15_eq, pay18_eq, pay5_eq, pay8_eq, pay10_eq, pay12_eq, pay14_eq, pay16_eq, pay19_eq,
    ktile_eq0, ktile_eq1, ktile_eq2, ktile_eq3, ktile_eq4, ktile_eq5, ktile_eq6, ktile_eq7]
  simp only [read_tile0, read_tile1, read_tile2, read_tile3, read_tile4, read_tile5, read_tile6, read_tile7]
  unfold blockOut
  simp only [final, stepAt, step, scores]
  conv =>
    lhs
    pattern (occs := *) (View.readCov _ _ _)
    · equals vtile (vT (iblk m c 4 t)) 2 => exact read_tile2 _ _ _
    · equals vtile (vT (iblk m c 4 t)) 1 => exact read_tile1 _ _ _
    · equals vtile (vT (iblk m c 4 t)) 0 => exact read_tile0 _ _ _
  rfl

end Cert.KernelIdeal.Attn
-- ==== Proof.At.lean ====
module

public import proofs.«01_k».proof.Proof.Model
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe

theorem score_at (K : Vec Ideal S1x1024x128 .bf16) (Q : Vec Ideal S128x1024 .bf16) (k c : Fin 1024) :
    k0_pay26 K Q (ix3 0 k c) = ∑ d : Fin 128, K (ix3 0 k d) * Q (ix2 d c) := by
  pointwise [k0_pay26]

theorem pv_at (V : Vec Ideal S1x144x1024 .bf16) (P : Vec Ideal S1x1024x1024 .bf16) (r : Fin 144) (c : Fin 1024) :
    k0_pay43 V P (ix2 r c) = ∑ k : Fin 1024, V (ix3 0 r k) * P (ix3 0 k c) := by
  pointwise [k0_pay43]

theorem prob_at (m : FVec Ideal S1x1024 .f32) (S : Vec Ideal S1x1024x1024 .f32) (k c : Fin 1024) :
    k0_pay47 m S (ix3 0 k c) = Ideal.exp2 (S (ix3 0 k c) - k0_pay46 m S (ix2 0 c)) := by
  pointwise [k0_pay47, k0_pay45]
  rfl

theorem alpha_at (m : FVec Ideal S1x1024 .f32) (S : Vec Ideal S1x1024x1024 .f32) (c : Fin 1024) :
    k0_pay48 m S (ix2 0 c) = Ideal.exp2 (m (ix2 0 c) - k0_pay46 m S (ix2 0 c)) := by
  pointwise [k0_pay48]
  rfl

theorem acc_at (α : FVec Ideal S1x1024 .f32) (pv A : FVec Ideal S144x1024 .f32) (r : Fin 144) (c : Fin 1024) :
    k0_pay49 α pv A (ix2 r c) = α (ix2 0 c) * A (ix2 r c) + pv (ix2 r c) := by
  pointwise [k0_pay49]

theorem zero_at (r : Fin 144) (c : Fin 1024) : k0_pay25 (F := Ideal) (ix2 r c) = 0 := by
  pointwise [k0_pay25]

theorem start_at (c : Fin 1024) : k0_pay29 (F := Ideal) (ix2 0 c) = Ideal.ofBits .f32 0xF149F2CA#32 := by
  pointwise [k0_pay29]

theorem out_at (g f : FVec Ideal S128x512 .f32) (r : Fin 512) (e : Fin 128) :
    k0_pay1 g f (ix3 0 r e) = g (ix2 e r) * f (ix2 e r) := by
  pointwise [k0_pay1]

theorem vt_at (V : Vec Ideal S1x1024x128 .bf16) (e : Fin 128) (k : Fin 1024) :
    k0_pay2 V (ix3 0 e k) = V (ix3 0 k e) := by
  pointwise [k0_pay2]

theorem one_at (e : Fin 16) (k : Fin 1024) :
    k0_pay3 (F := Ideal) (ix3 0 e k) = Ideal.ofBits .bf16 0x3F80#16 := by
  pointwise [k0_pay3]

theorem mask_at (d : Fin 128) (r : Fin 512) :
    k0_pay20 (ix2 d r) = if d.val % 64 < 32 then 1#1 else 0#1 := by
  pointwise [k0_pay20]
  revert d
  decide

theorem q0_at (x : Vec Ideal S1x512x128 .bf16) (d : Fin 128) (r : Fin 512) :
    k0_pay22 x (ix2 d r) = if d.val % 64 < 32 then x (ix3 0 r d) else 0 := by
  pointwise [k0_pay22, k0_pay21]
  rw [mask_at]
  split <;> rfl

theorem q1_at (x : Vec Ideal S1x512x128 .bf16) (d : Fin 128) (r : Fin 512) :
    k0_pay24 (k0_pay23 x) (ix2 d r) = if d.val % 64 < 32 then 0 else x (ix3 0 r d) := by
  pointwise [k0_pay24, k0_pay23, k0_pay21]
  rw [mask_at]
  split <;> rfl

end Cert.KernelIdeal.Attn
-- ==== Proof.Soft.lean ====
module

public import Idealize.ShloMosaic.PureOps.Ideal
public import Mathlib.Algebra.BigOperators.Fin

@[expose] public section

noncomputable section

namespace Cert.Soft

open Idealize.ShloMosaic
open scoped BigOperators

/-- The unnormalised weight of a score below ⊤: two to that power, nothing at ⊥. -/
def wt (s : EReal) : ℝ := (Ideal.exp2 s).toReal

theorem wt_coe (r : ℝ) : wt (r : EReal) = (2 : ℝ) ^ r := rfl
theorem wt_bot : wt ⊥ = 0 := by simp [wt]

theorem wt_nonneg (s : EReal) : 0 ≤ wt s := by
  induction s with
  | bot => rw [wt_bot]
  | coe r => rw [wt_coe]; positivity
  | top => simp [wt]

theorem wt_pos {s : EReal} (h : s < ⊤) (h' : s ≠ ⊥) : 0 < wt s := by
  induction s with
  | bot => exact absurd rfl h'
  | coe r => rw [wt_coe]; positivity
  | top => exact absurd h (lt_irrefl _)

theorem exp2_sub {s : EReal} (h : s < ⊤) (μ : ℝ) :
    Ideal.exp2 (s - (μ : EReal)) = (((2 : ℝ) ^ (-μ) * wt s : ℝ) : EReal) := by
  induction s with
  | bot => simp [wt_bot]
  | coe r =>
    rw [← EReal.coe_sub, Ideal.exp2_coe, wt_coe]
    congr 1
    show (2 : ℝ) ^ (r - μ) = _
    rw [← Real.rpow_add (by norm_num)]
    congr 1; ring
  | top => exact absurd h (lt_irrefl _)

theorem exp_sub {s : EReal} (h : s < ⊤) (ν : ℝ) :
    Ideal.exp (s * (Real.log 2 : ℝ) - (ν : EReal)) = ((Real.exp (-ν) * wt s : ℝ) : EReal) := by
  induction s with
  | bot =>
    rw [EReal.bot_mul_coe_of_pos (Real.log_pos (by norm_num))]
    simp [wt_bot]
  | coe r =>
    rw [← EReal.coe_mul, ← EReal.coe_sub, Ideal.exp_coe, wt_coe, Real.rpow_def_of_pos (by norm_num), ← Real.exp_add]
    congr 2; ring
  | top => exact absurd h (lt_irrefl _)

theorem coe_sum {ι : Type*} (t : Finset ι) (f : ι → ℝ) : ((∑ i ∈ t, f i : ℝ) : EReal) = ∑ i ∈ t, (f i : EReal) := by
  classical
  induction t using Finset.induction_on with
  | empty => simp
  | insert a s ha ih => rw [Finset.sum_insert ha, Finset.sum_insert ha, EReal.coe_add, ih]

theorem sub_top (x : EReal) : x - ⊤ = ⊥ := by
  rw [sub_eq_add_neg]; simp

/-- What holds after some tiles: either a score of ⊤ has been met and the accumulator is all zero, or the running
    maximum is a real number and the accumulator is the weighted sum so far, scaled down by it. -/
def Inv {ι : Type*} (m : EReal) (a : ι → EReal) (B : ι → ℝ) (ok : Prop) : Prop :=
  (m = ⊤ ∧ (∀ r, a r = 0) ∧ ¬ok) ∨ ∃ μ : ℝ, m = μ ∧ ok ∧ ∀ r, a r = (((2 : ℝ) ^ (-μ) * B r : ℝ) : EReal)

theorem inv_start {ι : Type*} (μ : ℝ) (a : ι → EReal) (ha : ∀ r, a r = 0) : Inv (μ : EReal) a (fun _ => 0) True :=
  Or.inr ⟨μ, rfl, trivial, fun r => by simp [ha]⟩

/-- One tile keeps it. -/
theorem inv_step {ι κ : Type*} [Fintype κ] {m m' : EReal} {a a' : ι → EReal} {B : ι → ℝ} {ok : Prop} {S : κ → EReal}
    {v : ι → κ → ℝ} (h : Inv m a B ok) (hm : ∃ M, m' = max m M ∧ (M < ⊤ ↔ ∀ k, S k < ⊤))
    (ha : ∀ r, a' r = Ideal.exp2 (m - m') * a r + ∑ k, (v r k : EReal) * Ideal.exp2 (S k - m')) :
    Inv m' a' (fun r => B r + ∑ k, v r k * wt (S k)) (ok ∧ ∀ k, S k < ⊤) := by
  obtain ⟨M, rfl, hM⟩ := hm
  have hz : ∀ r : ι, ∑ k, (v r k : EReal) * Ideal.exp2 (S k - ⊤) = 0 := fun r =>
    Finset.sum_eq_zero fun k _ => by rw [sub_top, Ideal.exp2_bot, mul_zero]
  rcases h with ⟨rfl, h0, hn⟩ | ⟨μ, rfl, hok, hB⟩
  · refine Or.inl ⟨by simp, fun r => ?_, fun h => hn h.1⟩
    rw [ha, h0, show max ⊤ M = ⊤ by simp, hz]; simp
  · by_cases hlt : M < ⊤
    · obtain ⟨μ', hμ⟩ : ∃ μ' : ℝ, max (μ : EReal) M = μ' := by
        induction M with
        | bot => exact ⟨μ, by simp⟩
        | coe y => exact ⟨max μ y, (EReal.coe_strictMono.monotone.map_max (a := μ) (b := y)).symm⟩
        | top => exact absurd hlt (lt_irrefl _)
      refine Or.inr ⟨μ', hμ, ⟨hok, hM.mp hlt⟩, fun r => ?_⟩
      rw [ha, hμ, hB, exp2_sub (EReal.coe_lt_top μ) μ', wt_coe]
      simp only [exp2_sub (hM.mp hlt _), ← EReal.coe_mul]
      rw [← coe_sum, ← EReal.coe_add]
      congr 1
      rw [mul_add, Finset.mul_sum]
      congr 1
      · rw [mul_assoc, ← mul_assoc ((2 : ℝ) ^ μ), ← Real.rpow_add (by norm_num)]
        simp
      · exact Finset.sum_congr rfl fun k _ => by ring
    · have hM' : M = ⊤ := not_lt_top_iff.mp hlt
      subst hM'
      refine Or.inl ⟨by simp, fun r => ?_, fun h => hlt (hM.mpr h.2)⟩
      rw [ha, show max (μ : EReal) ⊤ = ⊤ by simp, hz, sub_top]; simp

/-- The accumulator over its row of weights. -/
theorem inv_div {ι : Type*} {m : EReal} {a : ι → EReal} {B : ι → ℝ} {ok : Prop} (h : Inv m a B ok) (l e : ι)
    (hl : 0 ≤ B l) (he : B l = 0 → B e = 0) [Decidable (ok ∧ 0 < B l)] :
    Ideal.div (a e) (a l) = if ok ∧ 0 < B l then ((B e / B l : ℝ) : EReal) else ⊥ := by
  have hz : Ideal.div 0 0 = ⊥ := by simp [Ideal.div]
  rcases h with ⟨-, h0, hn⟩ | ⟨μ, -, hok, hB⟩
  · rw [h0, h0, hz, if_neg fun h => hn h.1]
  · by_cases hp : 0 < B l
    · rw [if_pos ⟨hok, hp⟩, hB, hB]
      have hc : (0 : ℝ) < 2 ^ (-μ) := by positivity
      unfold Ideal.div
      rw [if_neg (by rw [← EReal.coe_zero, EReal.coe_eq_coe_iff]; positivity), ← EReal.coe_inv, ← EReal.coe_mul]
      congr 1
      field_simp
    · have h0 : B l = 0 := le_antisymm (not_lt.mp hp) hl
      rw [if_neg fun h => hp h.2, hB, hB, h0, he h0]
      simpa using hz

/-- The reference's softmax: exponentials over their sum, the scores turned to base e and their maximum taken off. -/
def soft {n : ℕ} (s : Fin n → EReal) (i : Fin n) : EReal :=
  Ideal.div (Ideal.exp (s i * (Real.log 2 : ℝ) - Finset.univ.fold max ⊥ fun k => s k * (Real.log 2 : ℝ)))
    (∑ j, Ideal.exp (s j * (Real.log 2 : ℝ) - Finset.univ.fold max ⊥ fun k => s k * (Real.log 2 : ℝ)))

/-- The scores for which the softmax is a real distribution: none is ⊤ and not all are ⊥. -/
def Good {n : ℕ} (s : Fin n → EReal) : Prop := (∀ i, s i < ⊤) ∧ 0 < ∑ i, wt (s i)

theorem mul_log_lt {s : EReal} : s * (Real.log 2 : ℝ) < ⊤ ↔ s < ⊤ := by
  have hl : (0 : ℝ) < Real.log 2 := Real.log_pos (by norm_num)
  induction s with
  | bot => rw [EReal.bot_mul_coe_of_pos hl]
  | coe r => rw [← EReal.coe_mul]; exact ⟨fun _ => EReal.coe_lt_top _, fun _ => EReal.coe_lt_top _⟩
  | top => rw [EReal.top_mul_coe_of_pos hl]

theorem bot_lt_mul_log {s : EReal} : ⊥ < s * (Real.log 2 : ℝ) ↔ ⊥ < s := by
  have hl : (0 : ℝ) < Real.log 2 := Real.log_pos (by norm_num)
  induction s with
  | bot => rw [EReal.bot_mul_coe_of_pos hl]
  | coe r => rw [← EReal.coe_mul]; exact ⟨fun _ => EReal.bot_lt_coe _, fun _ => EReal.bot_lt_coe _⟩
  | top => rw [EReal.top_mul_coe_of_pos hl]

open Classical in
theorem soft_eq {n : ℕ} (s : Fin n → EReal) (i : Fin n) :
    soft s i = if Good s then ((wt (s i) / ∑ j, wt (s j) : ℝ) : EReal) else ⊥ := by
  obtain ⟨M, hM⟩ : ∃ M, M = Finset.univ.fold max ⊥ fun k => s k * (Real.log 2 : ℝ) := ⟨_, rfl⟩
  have hlt : M < ⊤ ↔ ∀ k, s k < ⊤ := by
    rw [hM, Finset.fold_max_lt]; simp [mul_log_lt]
  have hbt : ⊥ < M ↔ ∃ k, ⊥ < s k := by
    rw [hM, Finset.lt_fold_max]; simp only [lt_irrefl, false_or, Finset.mem_univ, true_and, bot_lt_mul_log]
  unfold soft
  rw [← hM]
  have hdeg : (∀ j, Ideal.exp (s j * (Real.log 2 : ℝ) - M) = 0) →
      Ideal.div (Ideal.exp (s i * (Real.log 2 : ℝ) - M)) (∑ j, Ideal.exp (s j * (Real.log 2 : ℝ) - M)) = ⊥ := fun h => by
    rw [h i, Finset.sum_eq_zero fun j _ => h j]; simp [Ideal.div]
  split
  · rename_i hg
    obtain ⟨ν, hν⟩ : ∃ ν : ℝ, M = ν := by
      have h1 := hlt.mpr hg.1
      have h2 : ⊥ < M := by
        refine hbt.mpr ?_
        by_contra hne
        refine absurd hg.2 (not_lt.mpr (le_of_eq (Finset.sum_eq_zero fun j _ => ?_)))
        rw [show s j = ⊥ from not_bot_lt_iff.mp fun h => hne ⟨j, h⟩, wt_bot]
      induction M with
      | bot => exact absurd h2 (lt_irrefl _)
      | coe y => exact ⟨y, rfl⟩
      | top => exact absurd h1 (lt_irrefl _)
    rw [hν]
    simp only [exp_sub (hg.1 _)]
    rw [← coe_sum, ← Finset.mul_sum]
    have hs := hg.2
    have he : (0 : ℝ) < Real.exp (-ν) := Real.exp_pos _
    unfold Ideal.div
    rw [if_neg (by rw [← EReal.coe_zero, EReal.coe_eq_coe_iff]; positivity), ← EReal.coe_inv, ← EReal.coe_mul]
    congr 1
    field_simp
  · rename_i hg
    refine hdeg fun j => ?_
    by_cases h1 : ∀ k, s k < ⊤
    · have h0 : ∀ k, s k = ⊥ := fun k => by
        by_contra hk
        exact hg ⟨h1, Finset.sum_pos' (fun i _ => wt_nonneg _) ⟨k, Finset.mem_univ _, wt_pos (h1 k) hk⟩⟩
      have hMb : M = ⊥ := not_bot_lt_iff.mp fun h => by
        obtain ⟨k, hk⟩ := hbt.mp h
        exact absurd (h0 k) hk.ne'
      rw [hMb, h0 j, EReal.bot_mul_coe_of_pos (Real.log_pos (by norm_num))]
      simp
    · rw [not_lt_top_iff.mp fun h => h1 (hlt.mp h), sub_top, Ideal.exp_bot]

/-- The normalisation of a head's row: over the root of the mean of its squares and `ε`. -/
def norm {n : ℕ} (N ε : EReal) (o : Fin n → EReal) (e : Fin n) : EReal :=
  o e * Ideal.rsqrt (Ideal.div (∑ x, o x * o x) N + ε)

theorem sum_top {n : ℕ} (o : Fin n → EReal) (h : ∀ e, o e = ⊤ ∨ o e = ⊥ ∨ o e = 0) :
    (∀ e, o e = 0) ∨ ∑ x, o x * o x = ⊤ := by
  by_cases h0 : ∀ e, o e = 0
  · exact Or.inl h0
  · right
    obtain ⟨e, he⟩ := not_forall.mp h0
    rw [← Finset.add_sum_erase _ _ (Finset.mem_univ e)]
    have h1 : o e * o e = ⊤ := by
      rcases h e with h | h | h
      · rw [h]; simp
      · rw [h]; simp
      · exact absurd h he
    rw [h1, EReal.top_add_of_ne_bot]
    refine fun hb => ?_
    have : (0 : EReal) ≤ ∑ x ∈ Finset.univ.erase e, o x * o x := Finset.sum_nonneg fun x _ => by
      rcases h x with h | h | h <;> rw [h] <;> simp
    rw [hb] at this
    exact absurd this (by simp)

/-- A row of zeros and infinities normalises to zero. -/
theorem norm_zero {n : ℕ} {ν ε : ℝ} (hν : 0 < ν) (o : Fin n → EReal) (h : ∀ e, o e = ⊤ ∨ o e = ⊥ ∨ o e = 0) (e : Fin n) :
    norm (ν : EReal) (ε : EReal) o e = 0 := by
  unfold norm
  rcases sum_top o h with h0 | h1
  · rw [h0 e, zero_mul]
  · rw [h1, show Ideal.div ⊤ (ν : EReal) = ⊤ from by
      unfold Ideal.div
      rw [if_neg (by rw [← EReal.coe_zero, EReal.coe_eq_coe_iff]; exact hν.ne'), ← EReal.coe_inv, EReal.top_mul_coe_of_pos (inv_pos.mpr hν)],
      EReal.top_add_of_ne_bot (EReal.coe_ne_bot ε)]
    rw [show Ideal.rsqrt ⊤ = 0 from rfl, mul_zero]

theorem sum_inf {ι : Type*} (t : Finset ι) (f : ι → EReal) (h : ∀ i ∈ t, f i = ⊤ ∨ f i = ⊥ ∨ f i = 0) :
    ∑ i ∈ t, f i = ⊤ ∨ ∑ i ∈ t, f i = ⊥ ∨ ∑ i ∈ t, f i = 0 := by
  classical
  induction t using Finset.induction_on with
  | empty => simp
  | insert a s ha ih =>
    rw [Finset.sum_insert ha]
    have h1 := h a (Finset.mem_insert_self _ _)
    have h2 := ih fun i hi => h i (Finset.mem_insert_of_mem hi)
    rcases h1 with h1 | h1 | h1 <;> rcases h2 with h2 | h2 | h2 <;> rw [h1, h2] <;> simp

theorem coe_mul_inf (v : ℝ) (c : EReal) (hc : c = ⊤ ∨ c = ⊥) : (v : EReal) * c = ⊤ ∨ (v : EReal) * c = ⊥ ∨ (v : EReal) * c = 0 := by
  rcases lt_trichotomy v 0 with h | rfl | h
  · rcases hc with rfl | rfl
    · simp [EReal.coe_mul_top_of_neg h]
    · simp [EReal.coe_mul_bot_of_neg h]
  · simp
  · rcases hc with rfl | rfl
    · simp [EReal.coe_mul_top_of_pos h]
    · simp [EReal.coe_mul_bot_of_pos h]

open Classical in
/-- Weighted sums first and the difference of the two components afterwards, as the kernel does it, against the
    difference of the weights first: the same after the normalisation. -/
theorem norm_diff {n p : ℕ} {ν ε lam : ℝ} (hν : 0 < ν) (s0 s1 : Fin n → EReal) (v : Fin n → Fin p → ℝ) (e : Fin p) :
    norm (ν : EReal) (ε : EReal) (fun e => (if Good s0 then (((∑ i, v i e * wt (s0 i)) / ∑ i, wt (s0 i) : ℝ) : EReal) else ⊥)
        - (lam : EReal) * (if Good s1 then (((∑ i, v i e * wt (s1 i)) / ∑ i, wt (s1 i) : ℝ) : EReal) else ⊥)) e
      = norm (ν : EReal) (ε : EReal) (fun e => ∑ i, (v i e : EReal) * (soft s0 i - (lam : EReal) * soft s1 i)) e := by
  simp only [soft_eq]
  have key : ∀ c : EReal, (c = ⊤ ∨ c = ⊥) → norm (ν : EReal) (ε : EReal) (fun _ => c) e
      = norm (ν : EReal) (ε : EReal) (fun e => ∑ i, (v i e : EReal) * c) e := fun c hc => by
    rw [norm_zero hν _ (fun e => by rcases hc with h | h <;> simp [h]),
      norm_zero hν _ (fun e => sum_inf _ _ fun i _ => coe_mul_inf _ _ hc)]
  by_cases h0 : Good s0
  · by_cases h1 : Good s1
    · simp only [if_pos h0, if_pos h1]
      congr 1
      funext e
      simp only [← EReal.coe_mul, ← EReal.coe_sub]
      rw [← coe_sum]
      congr 1
      simp only [mul_sub, Finset.sum_sub_distrib, Finset.sum_div, Finset.mul_sum]
      congr 1 <;> exact Finset.sum_congr rfl fun i _ => by ring
    · simp only [if_pos h0, if_neg h1]
      rcases lt_trichotomy lam 0 with h | rfl | h
      · rw [EReal.coe_mul_bot_of_neg h]
        simp only [sub_top]
        exact key ⊥ (Or.inr rfl)
      · simp only [EReal.coe_zero, zero_mul, sub_zero]
        congr 1
        funext e
        simp only [← EReal.coe_mul]
        rw [← coe_sum]
        congr 1
        rw [Finset.sum_div]
        exact Finset.sum_congr rfl fun i _ => by ring
      · rw [EReal.coe_mul_bot_of_pos h]
        have : ∀ r : ℝ, (r : EReal) - ⊥ = ⊤ := fun r => by rw [sub_eq_add_neg, EReal.neg_bot, EReal.coe_add_top]
        simp only [this]
        exact key ⊤ (Or.inl rfl)
  · simp only [if_neg h0, EReal.bot_sub]
    exact key ⊥ (Or.inr rfl)

/-- A sum over all keys, tile by tile. -/
theorem sum_tiles {M : Type*} [AddCommMonoid M] (f : Fin 8192 → M) :
    ∑ i, f i = ∑ j : Fin 8, ∑ k : Fin 1024, f ⟨1024 * j.val + k.val, by omega⟩ := by
  rw [← Fintype.sum_prod_type' fun (j : Fin 8) (k : Fin 1024) => f ⟨1024 * j.val + k.val, by omega⟩]
  refine (Fintype.sum_equiv (finProdFinEquiv (m := 8) (n := 1024)) _ f fun x => ?_).symm
  congr 1
  apply Fin.ext
  simp [finProdFinEquiv]
  omega

end Cert.Soft
-- ==== Proof.Lay.lean ====
module

public import proofs.«01_k».proof.Proof.Model
public import proofs.«01_k».proof.Proof.At
public import proofs.«01_k».proof.Proof.Soft

@[expose] public section

set_option maxRecDepth 16384

noncomputable section

namespace Cert.KernelIdeal.Attn

open Cert.KernelIdeal Cert.KernelIdeal.Gen Idealize.ShloMosaic Idealize.ShloMosaic.TcCoe

open Cert.KernelIdeal.Attn

theorem ktile_at (x : Vec Ideal S1x8192x128 .bf16) (j : Fin 8) (k : Fin 1024) (d : Fin 128) :
    ktile x j (ix3 0 k d) = x (ix3 0 ⟨1024 * j.val + k.val, by omega⟩ d) := by
  unfold ktile
  pointwise []

theorem vtile_at (W : Vec Ideal S8x144x1024 .bf16) (j : Fin 8) (e : Fin 144) (k : Fin 1024) :
    vtile W j (ix3 0 e k) = W (ix3 j e k) := by
  unfold vtile
  pointwise []

theorem queries_at0 (q : Vec Ideal S1x512x128 .bf16) (d : Fin 128) (r : Fin 512) :
    queries q (ix2 d ⟨r.val, by omega⟩) = if d.val % 64 < 32 then q (ix3 0 r d) else 0 := by
  unfold queries
  pointwise []
  unfold queryPieces
  canon_tiles x h
  · have h1' : r.val = 512 + (x 1).val := h1
    omega
  · have h0' : d.val = (x 0).val := h0
    have h1' : r.val = (x 1).val := h1
    rw [show x = ix2 d r from by blk_ext, q0_at]

theorem queries_at1 (q : Vec Ideal S1x512x128 .bf16) (d : Fin 128) (r : Fin 512) :
    queries q (ix2 d ⟨512 + r.val, by omega⟩) = if d.val % 64 < 32 then 0 else q (ix3 0 r d) := by
  unfold queries
  pointwise []
  unfold queryPieces
  canon_tiles x h
  · have h0' : d.val = (x 0).val := h0
    have h1' : 512 + r.val = 512 + (x 1).val := h1
    rw [show x = ix2 d r from by blk_ext, q1_at]
  · have h1' : 512 + r.val = (x 1).val := h1
    omega

/-- A value tile's rows: the head's values, then ones. -/
def row (x4 : Vec Ideal S1x8192x128 .bf16) (j : Fin 8) (e : Fin 144) (k : Fin 1024) : EReal :=
  if h : e.val < 128 then x4 (ix3 0 ⟨1024 * j.val + k.val, by omega⟩ ⟨e.val, h⟩) else Ideal.ofBits .bf16 0x3F80#16

theorem rows_tile (x4 : Vec Ideal S1x8192x128 .bf16) (i j : Fin 8) (e : Fin 144) (k : Fin 1024) :
    View.TileAt (Val := Elt Ideal) (S := S8x144x1024) (e := .bf16) (ix3 j e k) ![i.val, 0, 0] ![1, 128, 1024] (k0_pay2 (ktile x4 i)) (row x4 j e k) := by
  intro (x : S1x128x1024.Idx) hx
  have h0 : j.val = i.val + (x 0).val := hx 0
  have h1 : e.val = 0 + (x 1).val := hx 1
  have h2 : k.val = 0 + (x 2).val := hx 2
  have hx0 : (x 0).val < 1 := (x 0).isLt
  have hx1 : (x 1).val < 128 := (x 1).isLt
  obtain rfl : i = j := Fin.ext (by omega)
  rw [show x = ix3 0 ⟨e.val, by omega⟩ k from by blk_ext, vt_at, ktile_at]
  unfold row
  rw [dif_pos (by omega)]

theorem ones_tile (x4 : Vec Ideal S1x8192x128 .bf16) (i j : Fin 8) (e : Fin 144) (k : Fin 1024) :
    View.TileAt (Val := Elt Ideal) (S := S8x144x1024) (e := .bf16) (ix3 j e k) ![i.val, 128, 0] ![1, 16, 1024] (k0_pay3 (F := Ideal)) (row x4 j e k) := by
  intro (x : S1x16x1024.Idx) hx
  have h1 : e.val = 128 + (x 1).val := hx 1
  have h2 : k.val = 0 + (x 2).val := hx 2
  have hx0 : (x 0).val < 1 := (x 0).isLt
  have hx1 : (x 1).val < 16 := (x 1).isLt
  rw [show x = ix3 0 ⟨e.val - 128, by omega⟩ k from by blk_ext, one_at]
  unfold row
  rw [dif_neg (by omega)]

theorem vT_at (x4 : Vec Ideal S1x8192x128 .bf16) (j : Fin 8) (e : Fin 144) (k : Fin 1024) :
    vtile (vT x4) j (ix3 0 e k) = row x4 j e k := by
  rw [vtile_at]
  refine View.canon_eq_of_allAt (vpieces x4) (ix3 j e k) _ (View.cover_of_tiledBy (vpieces x4) ![1, 16, 1024] (by sl_kernel_rfl) _) ?_
  unfold vpieces
  refine View.allAt_cons_unit _ _ _ _ _ (ones_tile x4 7 j e k) (View.allAt_cons_unit _ _ _ _ _ (rows_tile x4 7 j e k) ?_)
  refine View.allAt_cons_unit _ _ _ _ _ (ones_tile x4 6 j e k) (View.allAt_cons_unit _ _ _ _ _ (rows_tile x4 6 j e k) ?_)
  refine View.allAt_cons_unit _ _ _ _ _ (ones_tile x4 5 j e k) (View.allAt_cons_unit _ _ _ _ _ (rows_tile x4 5 j e k) ?_)
  refine View.allAt_cons_unit _ _ _ _ _ (ones_tile x4 4 j e k) (View.allAt_cons_unit _ _ _ _ _ (rows_tile x4 4 j e k) ?_)
  refine View.allAt_cons_unit _ _ _ _ _ (ones_tile x4 3 j e k) (View.allAt_cons_unit _ _ _ _ _ (rows_tile x4 3 j e k) ?_)
  refine View.allAt_cons_unit _ _ _ _ _ (ones_tile x4 2 j e k) (View.allAt_cons_unit _ _ _ _ _ (rows_tile x4 2 j e k) ?_)
  refine View.allAt_cons_unit _ _ _ _ _ (ones_tile x4 1 j e k) (View.allAt_cons_unit _ _ _ _ _ (rows_tile x4 1 j e k) ?_)
  refine View.allAt_cons_unit _ _ _ _ _ (ones_tile x4 0 j e k) (View.allAt_cons_unit _ _ _ _ _ (rows_tile x4 0 j e k) ?_)
  exact View.allAt_nil _ _

/-- The factor of the second component. -/
def lam (x0 : Vec Ideal S4x64 .f32) : EReal :=
  Ideal.exp (∑ x : Fin 64, x0 (ix2 0 x) * x0 (ix2 1 x)) - Ideal.exp (∑ x : Fin 64, x0 (ix2 2 x) * x0 (ix2 3 x)) + Ideal.ofBits .f32 0x3F0E59D5#32

theorem blockOut_at (x0 : Vec Ideal S4x64 .f32) (x1 : Vec Ideal S128x512 .f32) (x2 : Vec Ideal S1x512x128 .bf16) (x3 : Vec Ideal S1x8192x128 .bf16) (W : Vec Ideal S8x144x1024 .bf16) (r : Fin 512) (e : Fin 128) :
    blockOut x0 x1 x2 x3 W (ix3 0 r e)
      = Cert.Soft.norm (Ideal.ofBits .f32 0x43000000#32) (Ideal.ofBits .f32 0x3727C5AC#32) (fun e : Fin 128 =>
          Ideal.div ((final x2 x3 W).2 (ix2 ⟨e.val, by omega⟩ ⟨r.val, by omega⟩)) ((final x2 x3 W).2 (ix2 128 ⟨r.val, by omega⟩))
          - lam x0 * Ideal.div ((final x2 x3 W).2 (ix2 ⟨e.val, by omega⟩ ⟨512 + r.val, by omega⟩)) ((final x2 x3 W).2 (ix2 128 ⟨512 + r.val, by omega⟩))) e
        * x1 (ix2 e r) * Ideal.ofBits .f32 0x3EE34C57#32 := by
  unfold blockOut
  pointwise [k0_pay1, k0_pay88, k0_pay87, k0_pay89]
  rfl

end Cert.KernelIdeal.Attn
-- ==== Proof.Max.lean ====
module

public import proofs.«01_k».proof.Proof.Model
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe

/-- One halving of a tree of maxima: the value at `y` meets the value `n` places on. -/
def lvl (n : ℕ) (f : ℕ → EReal) (y : ℕ) : EReal := max (f y) (f (n + y))

theorem lvl_lt (n : ℕ) (f : ℕ → EReal) : (∀ y < n, lvl n f y < ⊤) ↔ ∀ y < n + n, f y < ⊤ := by
  simp only [lvl, max_lt_iff]
  constructor
  · intro h y hy
    by_cases h1 : y < n
    · exact (h y h1).1
    · have := (h (y - n) (by omega)).2
      rwa [show n + (y - n) = y by omega] at this
  · exact fun h y hy => ⟨h y (by omega), h (n + y) (by omega)⟩

/-- The running maximum takes in a bound that is below ⊤ exactly when every score of the tile is. -/
theorem max_at (m : FVec Ideal S1x1024 .f32) (S : Vec Ideal S1x1024x1024 .f32) (c : Fin 1024) :
    ∃ M, k0_pay46 m S (ix2 0 c) = max (m (ix2 0 c)) M ∧ (M < ⊤ ↔ ∀ k : Fin 1024, S (ix3 0 k c) < ⊤) := by
  obtain ⟨f, hf⟩ : ∃ f : ℕ → EReal, ∀ y (h : y < 1024), S (ix3 0 ⟨y, h⟩ c) = f y :=
    ⟨fun y => if h : y < 1024 then S (ix3 0 ⟨y, h⟩ c) else ⊥, fun y h => by simp [h]⟩
  have hk : (∀ k : Fin 1024, S (ix3 0 k c) < ⊤) ↔ ∀ y < 1024, f y < ⊤ :=
    ⟨fun h y hy => hf y hy ▸ h ⟨y, hy⟩, fun h k => (hf k.val k.isLt).symm ▸ h k.val k.isLt⟩
  refine ⟨Finset.univ.fold max (Ideal.ofBits .f32 0xFF800000#32) (fun x : Fin 8 =>
    lvl 8 (lvl 16 (lvl 32 (lvl 64 (lvl 128 (lvl 256 (lvl 512 f)))))) x.val), ?_, ?_⟩
  · pointwise [k0_pay46, k0_pay45]
    simp only [hf]
    rfl
  · rw [hk, Finset.fold_max_lt]
    have hb : Ideal.ofBits .f32 0xFF800000#32 < ⊤ := by
      simp [Ideal.ofBits, Ideal.ieee]
    have e := (((((((lvl_lt 8 (lvl 16 (lvl 32 (lvl 64 (lvl 128 (lvl 256 (lvl 512 f))))))).trans
      (lvl_lt 16 _)).trans (lvl_lt 32 _)).trans (lvl_lt 64 _)).trans (lvl_lt 128 _)).trans (lvl_lt 256 _)).trans (lvl_lt 512 f))
    rw [show (1024 : ℕ) = 512 + 512 from rfl, ← e]
    exact ⟨fun h y hy => h.2 ⟨y, hy⟩ (Finset.mem_univ _), fun h => ⟨hb, fun x _ => h x.val x.isLt⟩⟩

end Cert.KernelIdeal.Attn
-- ==== Proof.Kern.lean ====
module

public import proofs.«01_k».proof.Proof.Lay
public import proofs.«01_k».proof.Proof.Max

@[expose] public section

set_option maxRecDepth 16384

noncomputable section

namespace Cert.KernelIdeal.Attn

open Cert.KernelIdeal Cert.KernelIdeal.Gen Idealize.ShloMosaic Idealize.ShloMosaic.TcCoe
open scoped BigOperators

/-- The head's column holding coordinate `d` of component `p`: the two components lie in alternate runs of 32. -/
def lane (p : Fin 2) (d : Fin 64) : Fin 128 := ⟨d.val / 32 * 64 + p.val * 32 + d.val % 32, by omega⟩

/-- A sum over a head's columns that leaves out one component's is a sum over the other's coordinates. -/
theorem sum_lane (p : Fin 2) (f : Fin 128 → EReal) (hf : ∀ d, d.val % 64 / 32 ≠ p.val → f d = 0) :
    ∑ d, f d = ∑ d : Fin 64, f (lane p d) := by
  have hinj : Function.Injective (lane p) := fun a b h => by
    have h' : a.val / 32 * 64 + p.val * 32 + a.val % 32 = b.val / 32 * 64 + p.val * 32 + b.val % 32 := congrArg Fin.val h
    exact Fin.ext (by omega)
  refine Eq.trans ?_ (Finset.sum_map Finset.univ ⟨lane p, hinj⟩ f)
  refine (Finset.sum_subset (Finset.subset_univ _) fun d _ hd => hf d fun he => hd ?_).symm
  rw [Finset.mem_map]
  refine ⟨⟨d.val / 64 * 32 + d.val % 32, by omega⟩, Finset.mem_univ _, Fin.ext ?_⟩
  show (d.val / 64 * 32 + d.val % 32) / 32 * 64 + p.val * 32 + (d.val / 64 * 32 + d.val % 32) % 32 = d.val
  omega

/-- The scores of one column of queries. -/
def sc (x2 : Vec Ideal S1x512x128 .bf16) (x3 : Vec Ideal S1x8192x128 .bf16) (c : Fin 1024) (i : Fin 8192) : EReal :=
  ∑ d : Fin 128, x3 (ix3 0 i d) * queries x2 (ix2 d c)

/-- The scores of a query's component. -/
def comp (x2 : Vec Ideal S1x512x128 .bf16) (x3 : Vec Ideal S1x8192x128 .bf16) (p : Fin 2) (r : Fin 512) (i : Fin 8192) : EReal :=
  ∑ d : Fin 64, x2 (ix3 0 r (lane p d)) * x3 (ix3 0 i (lane p d))

theorem sc_first (x2 : Vec Ideal S1x512x128 .bf16) (x3 : Vec Ideal S1x8192x128 .bf16) (r : Fin 512) :
    sc x2 x3 ⟨r.val, by omega⟩ = comp x2 x3 0 r := by
  funext i
  unfold sc comp
  simp only [queries_at0]
  rw [sum_lane 0 _ fun d hd => by rw [if_neg (by simp at hd; omega), mul_zero]]
  refine Finset.sum_congr rfl fun d _ => ?_
  rw [if_pos (by simp only [lane, Fin.val_zero]; omega), mul_comm]

theorem sc_second (x2 : Vec Ideal S1x512x128 .bf16) (x3 : Vec Ideal S1x8192x128 .bf16) (r : Fin 512) :
    sc x2 x3 ⟨512 + r.val, by omega⟩ = comp x2 x3 1 r := by
  funext i
  unfold sc comp
  simp only [queries_at1]
  rw [sum_lane 1 _ fun d hd => by rw [if_pos (by simp at hd; omega), mul_zero]]
  refine Finset.sum_congr rfl fun d _ => ?_
  rw [if_neg (by simp only [lane, Fin.val_one]; omega), mul_comm]

theorem one_real : Ideal.ofBits .bf16 0x3F80#16 = 1 := by
  rw [← EReal.coe_one]
  simp [Ideal.ofBits, Ideal.ieee, -EReal.coe_mul]
  norm_num

/-- The rows the accumulator adds up: a head's values, then ones. -/
def vr (v : Fin 8192 → Fin 128 → ℝ) (r : Fin 144) (i : Fin 8192) : ℝ := if h : r.val < 128 then v i ⟨r.val, h⟩ else 1

theorem row_eq {x4 : Vec Ideal S1x8192x128 .bf16} {v : Fin 8192 → Fin 128 → ℝ} (hv : ∀ i e, x4 (ix3 0 i e) = (v i e : EReal))
    (j : Fin 8) (r : Fin 144) (k : Fin 1024) : row x4 j r k = (vr v r ⟨1024 * j.val + k.val, by omega⟩ : EReal) := by
  unfold row vr
  split
  · rw [hv]
  · rw [show Ideal.ofBits .bf16 0x3F80#16 = 1 from one_real]; rfl

theorem stepAt_inv {x2 : Vec Ideal S1x512x128 .bf16} {x3 x4 : Vec Ideal S1x8192x128 .bf16} {v : Fin 8192 → Fin 128 → ℝ}
    (hv : ∀ i e, x4 (ix3 0 i e) = (v i e : EReal)) (c : Fin 1024) {s : FVec Ideal S1x1024 .f32 × Vec Ideal S144x1024 .f32}
    {B : Fin 144 → ℝ} {ok : Prop} (j : Fin 8)
    (h : Cert.Soft.Inv (s.1 (ix2 0 c)) (fun r : Fin 144 => s.2 (ix2 r c)) B ok) :
    Cert.Soft.Inv ((stepAt x2 x3 (vT x4) s j).1 (ix2 0 c)) (fun r : Fin 144 => (stepAt x2 x3 (vT x4) s j).2 (ix2 r c))
      (fun r => B r + ∑ k : Fin 1024, vr v r ⟨1024 * j.val + k.val, by omega⟩ * Cert.Soft.wt (sc x2 x3 c ⟨1024 * j.val + k.val, by omega⟩))
      (ok ∧ ∀ k : Fin 1024, sc x2 x3 c ⟨1024 * j.val + k.val, by omega⟩ < ⊤) := by
  have hS : ∀ k : Fin 1024, scores x2 (ktile x3 j) (ix3 0 k c) = sc x2 x3 c ⟨1024 * j.val + k.val, by omega⟩ := fun k => by
    unfold scores sc
    rw [score_at]
    simp only [ktile_at]
  refine Cert.Soft.inv_step (v := fun (r : Fin 144) (k : Fin 1024) => vr v r ⟨1024 * j.val + k.val, by omega⟩)
    (S := fun k : Fin 1024 => sc x2 x3 c ⟨1024 * j.val + k.val, by omega⟩) h ?_ fun r => ?_
  · obtain ⟨M, h1, h2⟩ := max_at s.1 (scores x2 (ktile x3 j)) c
    exact ⟨M, h1, by simpa only [hS] using h2⟩
  · show k0_pay49 (k0_pay48 s.1 (scores x2 (ktile x3 j))) (k0_pay43 (vtile (vT x4) j) (k0_pay47 s.1 (scores x2 (ktile x3 j)))) s.2 (ix2 r c) = _
    rw [acc_at, alpha_at, pv_at]
    simp only [prob_at, hS, vT_at, row_eq hv]
    rfl

theorem start_real : ∃ μ : ℝ, Ideal.ofBits .f32 0xF149F2CA#32 = (μ : EReal) := by
  simp only [Ideal.ofBits, Ideal.ieee]
  rw [if_neg (by decide), if_neg (by decide)]
  exact ⟨_, rfl⟩

theorem eps_real : ∃ μ : ℝ, Ideal.ofBits .f32 0x3727C5AC#32 = (μ : EReal) := by
  simp only [Ideal.ofBits, Ideal.ieee]
  rw [if_neg (by decide), if_neg (by decide)]
  exact ⟨_, rfl⟩

theorem lam_init_real : ∃ μ : ℝ, Ideal.ofBits .f32 0x3F0E59D5#32 = (μ : EReal) := by
  simp only [Ideal.ofBits, Ideal.ieee]
  rw [if_neg (by decide), if_neg (by decide)]
  exact ⟨_, rfl⟩

theorem width_real : ∃ ν : ℝ, 0 < ν ∧ Ideal.ofBits .f32 0x43000000#32 = (ν : EReal) := by
  refine ⟨128, by norm_num, ?_⟩
  simp [Ideal.ofBits, Ideal.ieee, -EReal.coe_mul]
  norm_num

theorem final_inv {x2 : Vec Ideal S1x512x128 .bf16} {x3 x4 : Vec Ideal S1x8192x128 .bf16} {v : Fin 8192 → Fin 128 → ℝ}
    (hv : ∀ i e, x4 (ix3 0 i e) = (v i e : EReal)) (c : Fin 1024) :
    Cert.Soft.Inv ((final x2 x3 (vT x4)).1 (ix2 0 c)) (fun r : Fin 144 => (final x2 x3 (vT x4)).2 (ix2 r c))
      (fun r => ∑ i, vr v r i * Cert.Soft.wt (sc x2 x3 c i)) (∀ i, sc x2 x3 c i < ⊤) := by
  obtain ⟨μ, hμ⟩ := start_real
  obtain ⟨s0, hs0⟩ : ∃ s0 : FVec Ideal S1x1024 .f32 × Vec Ideal S144x1024 .f32, s0 = ((k0_pay29 (F := Ideal), k0_pay25 (F := Ideal)) : FVec Ideal S1x1024 .f32 × Vec Ideal S144x1024 .f32) := ⟨_, rfl⟩
  have h0 : Cert.Soft.Inv (s0.1 (ix2 0 c)) (fun r : Fin 144 => s0.2 (ix2 r c)) (fun _ => 0) True := by
    rw [hs0]
    show Cert.Soft.Inv (k0_pay29 (F := Ideal) (ix2 0 c)) (fun r : Fin 144 => k0_pay25 (F := Ideal) (ix2 r c)) (fun _ => 0) True
    rw [start_at, hμ]
    exact Cert.Soft.inv_start μ _ fun r => zero_at r c
  have h8 := stepAt_inv (x2 := x2) (x3 := x3) hv c 7 (stepAt_inv (x2 := x2) (x3 := x3) hv c 6 (stepAt_inv (x2 := x2) (x3 := x3) hv c 5
    (stepAt_inv (x2 := x2) (x3 := x3) hv c 4 (stepAt_inv (x2 := x2) (x3 := x3) hv c 3 (stepAt_inv (x2 := x2) (x3 := x3) hv c 2
    (stepAt_inv (x2 := x2) (x3 := x3) hv c 1 (stepAt_inv (x2 := x2) (x3 := x3) hv c 0 h0)))))))
  rw [hs0] at h8
  simp only [zero_add] at h8
  have hok : (∀ i, sc x2 x3 c i < ⊤) ↔ ∀ j : Fin 8, ∀ k : Fin 1024, sc x2 x3 c ⟨1024 * j.val + k.val, by omega⟩ < ⊤ :=
    ⟨fun h j k => h _, fun h i => by
      have := h ⟨i.val / 1024, by omega⟩ ⟨i.val % 1024, by omega⟩
      simp only [Nat.div_add_mod] at this
      exact this⟩
  rw [hok]
  simp only [Cert.Soft.sum_tiles, Fin.sum_univ_eight]
  refine (congrArg (fun o => Cert.Soft.Inv _ _ _ o) (propext ?_)).mp h8
  constructor
  · rintro ⟨⟨⟨⟨⟨⟨⟨⟨-, h0⟩, h1⟩, h2⟩, h3⟩, h4⟩, h5⟩, h6⟩, h7⟩ j
    fin_cases j
    exacts [h0, h1, h2, h3, h4, h5, h6, h7]
  · exact fun h => ⟨⟨⟨⟨⟨⟨⟨⟨trivial, h 0⟩, h 1⟩, h 2⟩, h 3⟩, h 4⟩, h 5⟩, h 6⟩, h 7⟩

open Classical in
theorem final_div {x2 : Vec Ideal S1x512x128 .bf16} {x3 x4 : Vec Ideal S1x8192x128 .bf16} {v : Fin 8192 → Fin 128 → ℝ}
    (hv : ∀ i e, x4 (ix3 0 i e) = (v i e : EReal)) (c : Fin 1024) (e : Fin 128) :
    Ideal.div ((final x2 x3 (vT x4)).2 (ix2 ⟨e.val, by omega⟩ c)) ((final x2 x3 (vT x4)).2 (ix2 128 c))
      = if Cert.Soft.Good (sc x2 x3 c) then (((∑ i, v i e * Cert.Soft.wt (sc x2 x3 c i)) / ∑ i, Cert.Soft.wt (sc x2 x3 c i) : ℝ) : EReal) else ⊥ := by
  have h1 : ∑ i, vr v 128 i * Cert.Soft.wt (sc x2 x3 c i) = ∑ i, Cert.Soft.wt (sc x2 x3 c i) :=
    Finset.sum_congr rfl fun i _ => by rw [show vr v 128 i = 1 from rfl, one_mul]
  have he : ∀ i, vr v ⟨e.val, by omega⟩ i = v i e := fun i => by unfold vr; rw [dif_pos e.isLt]
  have h := Cert.Soft.inv_div (final_inv (x2 := x2) (x3 := x3) hv c) 128 ⟨e.val, by omega⟩
    (Finset.sum_nonneg fun i _ => by rw [show vr v 128 i = 1 from rfl, one_mul]; exact Cert.Soft.wt_nonneg _)
    (fun h0 => by
      rw [h1] at h0
      have := (Finset.sum_eq_zero_iff_of_nonneg fun i _ => Cert.Soft.wt_nonneg (sc x2 x3 c i)).mp h0
      exact Finset.sum_eq_zero fun i hi => by rw [this i hi, mul_zero])
  simp only [h1, he] at h
  exact h.trans (if_congr Iff.rfl rfl rfl)

theorem lam_real {x0 : Vec Ideal S4x64 .f32} (h : ∀ a b, ∃ r : ℝ, x0 (ix2 a b) = (r : EReal)) : ∃ l : ℝ, lam x0 = (l : EReal) := by
  choose f hf using h
  obtain ⟨μ, hμ⟩ := lam_init_real
  refine ⟨Real.exp (∑ x, f 0 x * f 1 x) - Real.exp (∑ x, f 2 x * f 3 x) + μ, ?_⟩
  unfold lam
  simp only [hf, hμ, ← EReal.coe_mul, ← Cert.Soft.coe_sum, Ideal.exp_coe, ← EReal.coe_sub, ← EReal.coe_add]

/-- One block of the kernel's output, from the blocks it read. -/
theorem block_at {x0 : Vec Ideal S4x64 .f32} {x1 : Vec Ideal S128x512 .f32} {x2 : Vec Ideal S1x512x128 .bf16} {x3 x4 : Vec Ideal S1x8192x128 .bf16}
    (h0 : ∀ a b, ∃ r : ℝ, x0 (ix2 a b) = (r : EReal)) (h4 : ∀ i e, ∃ r : ℝ, x4 (ix3 0 i e) = (r : EReal)) (r : Fin 512) (e : Fin 128) :
    blockOut x0 x1 x2 x3 (vT x4) (ix3 0 r e)
      = Cert.Soft.norm (Ideal.ofBits .f32 0x43000000#32) (Ideal.ofBits .f32 0x3727C5AC#32) (fun e : Fin 128 =>
          ∑ i, x4 (ix3 0 i e) * (Cert.Soft.soft (comp x2 x3 0 r) i - lam x0 * Cert.Soft.soft (comp x2 x3 1 r) i)) e
        * x1 (ix2 e r) * Ideal.ofBits .f32 0x3EE34C57#32 := by
  obtain ⟨l, hl⟩ := lam_real h0
  choose v hv using h4
  obtain ⟨ε, hε⟩ := eps_real
  obtain ⟨ν, hν, hw⟩ := width_real
  have d0 := fun e => final_div (x2 := x2) (x3 := x3) hv ⟨r.val, by omega⟩ e
  have d1 := fun e => final_div (x2 := x2) (x3 := x3) hv ⟨512 + r.val, by omega⟩ e
  rw [sc_first] at d0
  rw [sc_second] at d1
  rw [blockOut_at, hl, hε, hw]
  simp only [d0, d1, hv]
  rw [Cert.Soft.norm_diff hν]

end Cert.KernelIdeal.Attn
-- ==== Proof.Spec.lean ====
module

public import proofs.«01_k».proof.Proof.Soft
public import Idealize.ShloMosaic.Lib.Pointwise

@[expose] public section

noncomputable section

namespace Cert.Spec

open Idealize.ShloMosaic
open scoped BigOperators

abbrev Act := (⟨3, ![4, 8192, 1024]⟩ : Shape)

/-- The head's column holding coordinate `d` of component `p`: the two components lie in alternate runs of 32. -/
def lane (p : Fin 2) (d : Fin 64) : Fin 128 := ⟨d.val / 32 * 64 + p.val * 32 + d.val % 32, by omega⟩

/-- Column `e` of head `h`. -/
def col (h : Fin 8) (e : Fin 128) : Fin 1024 := ⟨h.val * 128 + e.val, by omega⟩

/-- The score of query `s` against key `i`, component `p` of head `h`. -/
def score (q k : Act.Idx → EReal) (b : Fin 4) (s : Fin 8192) (h : Fin 8) (p : Fin 2) (i : Fin 8192) : EReal :=
  ∑ d : Fin 64, q (ix3 b s (col h (lane p d))) * k (ix3 b i (col h (lane p d)))

/-- The factor of the second component. -/
def lam (l : (⟨2, ![4, 64]⟩ : Shape).Idx → EReal) : EReal :=
  Ideal.exp (∑ x : Fin 64, l (ix2 0 x) * l (ix2 1 x)) - Ideal.exp (∑ x : Fin 64, l (ix2 2 x) * l (ix2 3 x)) + Ideal.ofBits .f32 0x3F0E59D5#32

/-- The differential attention at one element: the values weighted by the difference of the two components' softmaxes,
    each head's row normalised and scaled. -/
def attn (l : (⟨2, ![4, 64]⟩ : Shape).Idx → EReal) (g : (⟨1, ![128]⟩ : Shape).Idx → EReal) (q k v : Act.Idx → EReal)
    (b : Fin 4) (s : Fin 8192) (h : Fin 8) (e : Fin 128) : EReal :=
  Cert.Soft.norm (Ideal.ofBits .f32 0x43000000#32) (Ideal.ofBits .f32 0x3727C5AC#32) (fun e : Fin 128 =>
      ∑ i, v (ix3 b i (col h e)) * (Cert.Soft.soft (score q k b s h 0) i - lam l * Cert.Soft.soft (score q k b s h 1) i)) e
    * g (ix1 e) * Ideal.ofBits .f32 0x3EE34C57#32

end Cert.Spec
-- ==== Proof.Arr.lean ====
module

public import proofs.«01_k».proof.Proof.Kern
public import proofs.«01_k».proof.Proof.Spec
public import proofs.«01_k».proof.Proof.Gen.KernelIdeal.Value
public import Idealize.ShloMosaic.Lib.Pipeline.Covers
public import Idealize.ShloMosaic.Lib.Pipeline.ValueKit.Held
public import Idealize.ShloMosaic.Lib.Pipeline.ValueKit

@[expose] public section

set_option maxRecDepth 16384

noncomputable section

namespace Cert.KernelIdeal.Attn

open Cert.KernelIdeal Cert.KernelIdeal.Gen Idealize.ShloMosaic Idealize.ShloMosaic.TcCoe
open scoped BigOperators

variable (m : (ℓ : Loc nD τ sig) → Buf (Elt Ideal) ℓ)

/-- Where each window's block lies at each point. -/
theorem idx : ∀ t : Fin cfg0.N, win0_0.index t = ![0, 0] ∧ win0_1.index t = ![0, 0]
    ∧ win0_2.index t = ![t.val / 128, t.val % 16, t.val / 16 % 8] ∧ win0_3.index t = ![t.val / 128, 0, t.val / 16 % 8]
    ∧ win0_4.index t = ![t.val / 128, 0, t.val / 16 % 8] ∧ win0_5.index t = ![t.val / 128, t.val % 16, t.val / 16 % 8] :=
  (by decide +kernel : ∀ t : Fin grid0.N, _)

theorem lt_N (t : Fin cfg0.N) : t.val < 512 := lt_of_lt_of_eq t.isLt N_0

theorem read0 (c : Dev nD) (t : Fin cfg0.N) (a : Fin 4) (b : Fin 64) :
    iblk m c 0 t (ix2 a b) = m ((c : Thread nD τ).loc main_arg0) (ix2 a b) := by
  blk_ext [iblk, V, idx t]

theorem read1 (c : Dev nD) (t : Fin cfg0.N) (e : Fin 128) (r : Fin 512) :
    iblk m c 1 t (ix2 e r) = m ((c : Thread nD τ).loc main_arg1) (ix1 e) := by
  blk_simp [iblk, idx t]
  have hv : V m c main_v1 = broadcastInDim S128x512 ![0, 1] bcast_S128x1_S128x512_0_1 (broadcastInDim S128x1 ![0] bcast_S128_S128x1_0 (m ((c : Thread nD τ).loc main_arg1))) := by
    unfold V
    after_results
    try rfl
  rw [hv]
  pointwise []
  blk_ext [idx t]

theorem read2 (c : Dev nD) (t : Fin cfg0.N) (r : Fin 512) (d : Fin 128) :
    iblk m c 2 t (ix3 0 r d) = m ((c : Thread nD τ).loc main_arg2)
      (ix3 ⟨t.val / 128, by have := lt_N t; omega⟩ ⟨t.val % 16 * 512 + r.val, by omega⟩ ⟨t.val / 16 % 8 * 128 + d.val, by omega⟩) := by
  blk_ext [iblk, V, idx t]

theorem read3 (c : Dev nD) (t : Fin cfg0.N) (i : Fin 8192) (d : Fin 128) :
    iblk m c 3 t (ix3 0 i d) = m ((c : Thread nD τ).loc main_arg3)
      (ix3 ⟨t.val / 128, by have := lt_N t; omega⟩ i ⟨t.val / 16 % 8 * 128 + d.val, by omega⟩) := by
  blk_ext [iblk, V, idx t]

theorem read4 (c : Dev nD) (t : Fin cfg0.N) (i : Fin 8192) (d : Fin 128) :
    iblk m c 4 t (ix3 0 i d) = m ((c : Thread nD τ).loc main_arg4)
      (ix3 ⟨t.val / 128, by have := lt_N t; omega⟩ i ⟨t.val / 16 % 8 * 128 + d.val, by omega⟩) := by
  blk_ext [iblk, V, idx t]

/-- The transposed values a run of sixteen points keeps in scratch are those of its first point's block. -/
theorem held (c : Dev nD) (t : Fin cfg0.N) :
    (outsAt0 m c t.val t.isLt).2 = vT (iblk m c 4 ⟨16 * (t.val / 16), Pipeline.run_start_lt t⟩) :=
  Pipeline.eq_of_write_hold (fun n h => (outsAt0 m c n h).2) 16 (fun t => vT (iblk m c 4 t))
    (fun t h0 => by rw [outsAt0_A m c t h0]; exact openS m c t h0)
    (fun t h0 => by rw [outsAt0_B m c t h0]; rfl) t

/-- Points of one run read the same block of values. -/
theorem same4 (c : Dev nD) (t u : Fin cfg0.N) (h : t.val / 16 = u.val / 16) : iblk m c 4 t = iblk m c 4 u := by
  funext i
  have h1 : t.val / 128 = u.val / 128 := by omega
  blk_ext [iblk, V, idx t, idx u]

/-- What a point leaves in its output block. -/
theorem out_eq (c : Dev nD) (t : Fin cfg0.N) :
    (outsAt0 m c t.val t.isLt).1 = blockOut (iblk m c 0 t) (iblk m c 1 t) (iblk m c 2 t) (iblk m c 3 t) (vT (iblk m c 4 t)) := by
  by_cases h0 : t.val % 16 = 0
  · rw [outsAt0_A m c t h0]
    dsimp only
    rw [openA m c t h0]
  · have hlt : t.val - 1 < cfg0.N := Nat.lt_of_le_of_lt (Nat.sub_le _ _) t.isLt
    have hx : (outsAt0 m c (t.val - 1) hlt).2 = vT (iblk m c 4 t) :=
      (held m c ⟨t.val - 1, hlt⟩).trans (congrArg vT (same4 m c _ t (by show 16 * ((t.val - 1) / 16) / 16 = t.val / 16; omega)))
    rw [outsAt0_B m c t h0, hx]
    dsimp only
    rw [openB m c t h0]

end Cert.KernelIdeal.Attn
-- ==== Proof.Final.lean ====
module

public import proofs.«01_k».proof.Proof.Arr

@[expose] public section

set_option maxRecDepth 16384

noncomputable section

namespace Cert.KernelIdeal.Attn

open Cert.KernelIdeal Cert.KernelIdeal.Gen Idealize.ShloMosaic Idealize.ShloMosaic.TcCoe
open scoped BigOperators

variable (m : (ℓ : Loc nD τ sig) → Buf (Elt Ideal) ℓ)

/-- The attention of the arguments, element by element. -/
def result (c : Dev nD) : S4x8192x1024.Idx → EReal := fun i =>
  Cert.Spec.attn (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1)
    ⟨(i 2).val / 128, by have h : (i 2).val < 1024 := (i 2).isLt; omega⟩ ⟨(i 2).val % 128, by omega⟩

theorem result_at (c : Dev nD) (b : Fin 4) (s : Fin 8192) (h : Fin 8) (e : Fin 128) :
    result m c (ix3 b s (Cert.Spec.col h e)) = Cert.Spec.attn (m ((c : Thread nD τ).loc main_arg0)) (m ((c : Thread nD τ).loc main_arg1))
      (m ((c : Thread nD τ).loc main_arg2)) (m ((c : Thread nD τ).loc main_arg3)) (m ((c : Thread nD τ).loc main_arg4)) b s h e := by
  have h1 : (⟨(Cert.Spec.col h e).val / 128, by omega⟩ : Fin 8) = h := Fin.ext (by simp only [Cert.Spec.col]; omega)
  have h2 : (⟨(Cert.Spec.col h e).val % 128, by omega⟩ : Fin 128) = e := Fin.ext (by simp only [Cert.Spec.col]; omega)
  show Cert.Spec.attn _ _ _ _ _ b s ⟨(Cert.Spec.col h e).val / 128, _⟩ ⟨(Cert.Spec.col h e).val % 128, _⟩ = _
  rw [h1, h2]

/-- The scores a point works with are those of its batch, head and query rows. -/
theorem comp_score (c : Dev nD) (t : Fin cfg0.N) (p : Fin 2) (r : Fin 512) :
    comp (iblk m c 2 t) (iblk m c 3 t) p r = Cert.Spec.score (m ((c : Thread nD τ).loc main_arg2)) (m ((c : Thread nD τ).loc main_arg3))
      ⟨t.val / 128, by have := lt_N t; omega⟩ ⟨t.val % 16 * 512 + r.val, by omega⟩ ⟨t.val / 16 % 8, by omega⟩ p := by
  funext i
  simp only [comp, read2, read3]
  rfl

theorem lam_eq (c : Dev nD) (t : Fin cfg0.N) : lam (iblk m c 0 t) = Cert.Spec.lam (m ((c : Thread nD τ).loc main_arg0)) := by
  simp only [lam, read0]
  rfl

/-- One element of what a point leaves in its output block. -/
theorem point (c : Dev nD) (h0 : ∀ i, ∃ r : ℝ, m ((c : Thread nD τ).loc main_arg0) i = (r : EReal))
    (h4 : ∀ i, ∃ r : ℝ, m ((c : Thread nD τ).loc main_arg4) i = (r : EReal)) (t : Fin cfg0.N) (r : Fin 512) (e : Fin 128) :
    blockOut (iblk m c 0 t) (iblk m c 1 t) (iblk m c 2 t) (iblk m c 3 t) (vT (iblk m c 4 t)) (ix3 0 r e)
      = Cert.Spec.attn (m ((c : Thread nD τ).loc main_arg0)) (m ((c : Thread nD τ).loc main_arg1)) (m ((c : Thread nD τ).loc main_arg2))
        (m ((c : Thread nD τ).loc main_arg3)) (m ((c : Thread nD τ).loc main_arg4))
        ⟨t.val / 128, by have := lt_N t; omega⟩ ⟨t.val % 16 * 512 + r.val, by omega⟩ ⟨t.val / 16 % 8, by omega⟩ e := by
  rw [block_at (fun a b => by rw [read0]; exact h0 _) (fun i e => by rw [read4]; exact h4 _)]
  simp only [comp_score, lam_eq, read1, read4]
  rfl

/-- The result array after the run. -/
theorem final_arr (c : Dev nD) (h0 : ∀ i, ∃ r : ℝ, m ((c : Thread nD τ).loc main_arg0) i = (r : EReal))
    (h4 : ∀ i, ∃ r : ℝ, m ((c : Thread nD τ).loc main_arg4) i = (r : EReal)) :
    (dats m 0 c).arrAt 5 cfg0.N = result m c := by
  refine (dats m 0 c).arrAt_eq_of_covers 5 _ (by decide +kernel) fun t _ y => ?_
  blk_simp
  rw [after0_5, out_eq]
  have hy : y = (ix3 0 (y 1) (y 2) : S1x512x128.Idx) := by
    funext a
    match a with
    | 0 => exact Fin.ext (by have : (y 0).val < 1 := (y 0).isLt; show (y 0).val = 0; omega)
    | 1 => rfl
    | 2 => rfl
  have he : ((cfg0.win 5).blk t).view.emb y = ix3 ⟨t.val / 128, by have := lt_N t; omega⟩ ⟨t.val % 16 * 512 + (y 1).val, by have h : (y 1).val < 512 := (y 1).isLt; omega⟩
      (Cert.Spec.col ⟨t.val / 16 % 8, by omega⟩ (y 2)) := by
    unfold Cert.Spec.col
    blk_ext [idx t]
  exact (congrArg _ hy).trans ((point m c h0 h4 t (y 1) (y 2)).trans
    ((result_at m c ⟨t.val / 128, by have := lt_N t; omega⟩ ⟨t.val % 16 * 512 + (y 1).val, by have h : (y 1).val < 512 := (y 1).isLt; omega⟩ ⟨t.val / 16 % 8, by omega⟩ (y 2)).symm.trans
      (congrArg (result m c) he).symm))

end Cert.KernelIdeal.Attn
-- ==== Proof.Ref.lean ====
module

public import proofs.«01_k».proof.Proof.Spec
public import proofs.«01_k».proof.Proof.Gen.ReferenceIdeal.Run
public import Idealize.ShloMosaic.Lib.Pointwise

@[expose] public section

set_option maxRecDepth 16384

noncomputable section

namespace Cert.ReferenceIdeal.Attn

open Cert.ReferenceIdeal Cert.ReferenceIdeal.Gen Cert.ReferenceIdeal.Value Idealize.ShloMosaic Idealize.ShloMosaic.TcCoe
open scoped BigOperators

/-- An activation with each head's two components gathered. -/
def halves (q : FVec Ideal S4x8192x1024 .bf16) : FVec Ideal S4x8192x8x2x64 .f32 :=
  shapeCast _ (transpose S4x8192x8x2x2x32 [0, 1, 2, 4, 3, 5] (shapeCast _ (extf .f32 q bitsLt_bf16_f32) shapeCasts_S4x8192x1024_S4x8192x8x2x2x32) transposes_S4x8192x8x2x2x32_S4x8192x8x2x2x32_0_1_2_4_3_5) shapeCasts_S4x8192x8x2x2x32_S4x8192x8x2x64

/-- The scores, turned to base e. -/
def scored (q k : FVec Ideal S4x8192x1024 .bf16) : FVec Ideal S4x8x2x8192x8192 .f32 :=
  mulf (Host.dotGeneral dot_S4x8192x8x2x64_S4x8192x8x2x64_S4x8x2x8192x8192_4_4_1_1_023_023 none (halves q) (halves k)) (broadcastInDim S4x8x2x8192x8192 ![] bcast_S_S4x8x2x8192x8192 (Host.log (constant S_ .f32 0x40000000#32)))

/-- The largest score of each query. -/
def top (sc : FVec Ideal S4x8x2x8192x8192 .f32) : FVec Ideal S4x8x2x8192 .f32 :=
  maximumf (broadcastInDim S4x8x2x8192 ![] bcast_S_S4x8x2x8192 (constant S_ .f32 0xFF800000#32)) (Host.reduce FloatOps.maximumf sc (constant S_ .f32 0xFF800000#32) reducesTo_S4x8x2x8192x8192_S4x8x2x8192_d4 h_S_)

/-- The exponentials of the scores less their maximum. -/
def raised (sc : FVec Ideal S4x8x2x8192x8192 .f32) : FVec Ideal S4x8x2x8192x8192 .f32 :=
  Host.exp (subf sc (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (top sc))))

/-- The softmax. -/
def weights (sc : FVec Ideal S4x8x2x8192x8192 .f32) : FVec Ideal S4x8x2x8192x8192 .f32 :=
  Host.divf (raised sc) (broadcastInDim S4x8x2x8192x8192 ![0, 1, 2, 3, 4] bcast_S4x8x2x8192x1_S4x8x2x8192x8192_0_1_2_3_4 (broadcastInDim S4x8x2x8192x1 ![0, 1, 2, 3] bcast_S4x8x2x8192_S4x8x2x8192x1_0_1_2_3 (Host.reduceAdd (raised sc) (constant S_ .f32 0x00000000#32) reducesTo_S4x8x2x8192x8192_S4x8x2x8192_d4 h_S_)))

/-- The factor of the second component. -/
def factor (l : FVec Ideal S4x64 .f32) : FVec Ideal S_ .f32 :=
  addf (subf (Host.exp (Host.reduceAdd (mulf (shapeCast _ (extractStridedSlice S1x64 ![0, 0] l slices_S4x64_S1x64_0_0) shapeCasts_S1x64_S64) (shapeCast _ (extractStridedSlice S1x64 ![1, 0] l slices_S4x64_S1x64_1_0) shapeCasts_S1x64_S64)) (constant S_ .f32 0x00000000#32) reducesTo_S64_S_d0 h_S_)) (Host.exp (Host.reduceAdd (mulf (shapeCast _ (extractStridedSlice S1x64 ![2, 0] l slices_S4x64_S1x64_2_0) shapeCasts_S1x64_S64) (shapeCast _ (extractStridedSlice S1x64 ![3, 0] l slices_S4x64_S1x64_3_0) shapeCasts_S1x64_S64)) (constant S_ .f32 0x00000000#32) reducesTo_S64_S_d0 h_S_))) (constant S_ .f32 0x3F0E59D5#32)

/-- The values weighted by the difference of the two softmaxes. -/
def mixed (l : FVec Ideal S4x64 .f32) (v : FVec Ideal S4x8192x1024 .bf16) (p : FVec Ideal S4x8x2x8192x8192 .f32) : FVec Ideal S4x8192x8x128 .f32 :=
  transpose S4x8192x8x128 [0, 3, 1, 2] (Host.dotGeneral dot_S4x8192x8x128_S4x8x8192x8192_S4x8x128x8192_1_3_3_2_02_01 none (extf .f32 (shapeCast _ v shapeCasts_S4x8192x1024_S4x8192x8x128) bitsLt_bf16_f32) (subf (shapeCast _ (extractStridedSlice S4x8x1x8192x8192 ![0, 0, 0, 0, 0] p slices_S4x8x2x8192x8192_S4x8x1x8192x8192_0_0_0_0_0) shapeCasts_S4x8x1x8192x8192_S4x8x8192x8192) (mulf (broadcastInDim S4x8x8192x8192 ![] bcast_S_S4x8x8192x8192 (factor l)) (shapeCast _ (extractStridedSlice S4x8x1x8192x8192 ![0, 0, 1, 0, 0] p slices_S4x8x2x8192x8192_S4x8x1x8192x8192_0_0_1_0_0) shapeCasts_S4x8x1x8192x8192_S4x8x8192x8192)))) transposes_S4x8x128x8192_S4x8192x8x128_0_3_1_2

/-- The normalised and scaled rows, heads side by side. -/
def scaled (g : FVec Ideal S128 .f32) (o : FVec Ideal S4x8192x8x128 .f32) : FVec Ideal S4x8192x1024 .bf16 :=
  truncf .bf16 (shapeCast _ (mulf (mulf (mulf o (broadcastInDim S4x8192x8x128 ![0, 1, 2, 3] bcast_S4x8192x8x1_S4x8192x8x128_0_1_2_3 (Host.rsqrt (addf (Host.divf (broadcastInDim S4x8192x8x1 ![0, 1, 2] bcast_S4x8192x8_S4x8192x8x1_0_1_2 (Host.reduceAdd (mulf o o) (constant S_ .f32 0x00000000#32) reducesTo_S4x8192x8x128_S4x8192x8_d3 h_S_)) (broadcastInDim S4x8192x8x1 ![] bcast_S_S4x8192x8x1 (constant S_ .f32 0x43000000#32))) (broadcastInDim S4x8192x8x1 ![] bcast_S_S4x8192x8x1 (constant S_ .f32 0x3727C5AC#32)))))) (broadcastInDim S4x8192x8x128 ![0, 1, 2, 3] bcast_S1x1x1x128_S4x8192x8x128_0_1_2_3 (broadcastInDim S1x1x1x128 ![3] bcast_S128_S1x1x1x128_3 g))) (broadcastInDim S4x8192x8x128 ![] bcast_S_S4x8192x8x128 (constant S_ .f32 0x3EE34C57#32))) shapeCasts_S4x8192x8x128_S4x8192x1024) bitsLt_bf16_f32

variable (m : (ℓ : Loc nD τ sig) → Buf (Elt Ideal) ℓ)

theorem res_eq (c : Dev nD) : res_main_v66 m c = scaled (m ((c.tc : Thread nD τ).loc main_arg1))
    (mixed (m ((c.tc : Thread nD τ).loc main_arg0)) (m ((c.tc : Thread nD τ).loc main_arg4))
      (weights (scored (m ((c.tc : Thread nD τ).loc main_arg2)) (m ((c.tc : Thread nD τ).loc main_arg3))))) := rfl

theorem halves_at (q : FVec Ideal S4x8192x1024 .bf16) (b : Fin 4) (s : Fin 8192) (h : Fin 8) (p : Fin 2) (d : Fin 64) :
    halves q (ix5 b s h p d) = q (ix3 b s (Cert.Spec.col h (Cert.Spec.lane p d))) := by
  pointwise [halves]
  congr 2
  simp only [Cert.Spec.col, Cert.Spec.lane]
  congr 1
  omega

theorem scored_at (q k : FVec Ideal S4x8192x1024 .bf16) (b : Fin 4) (s i : Fin 8192) (h : Fin 8) (p : Fin 2) :
    scored q k (ix5 b h p s i) = Cert.Spec.score q k b s h p i * (Real.log 2 : ℝ) := by
  pointwise [scored]
  have h2 : Ideal.log (Ideal.ofBits .f32 0x40000000#32) = (Real.log 2 : ℝ) := by
    have h : Ideal.ofBits .f32 0x40000000#32 = ((2 : ℝ) : EReal) := by
      simp [Ideal.ofBits, Ideal.ieee, -EReal.coe_mul]
      norm_num
    rw [h]
    exact if_neg (by norm_num)
  rw [h2]
  simp only [halves_at]
  rfl

/-- A maximum along the last of five axes. -/
theorem reduce_last {n0 n1 n2 n3 n4 : ℕ} {u : Shape} (x : (⟨5, ![n0, n1, n2, n3, n4]⟩ : Shape).Idx → EReal) (init : u.Idx → EReal)
    (h : (⟨5, ![n0, n1, n2, n3, n4]⟩ : Shape).ReducesTo [4] ⟨4, ![n0, n1, n2, n3]⟩) (hu : 0 < u.numel)
    (a0 : Fin n0) (a1 : Fin n1) (a2 : Fin n2) (a3 : Fin n3) :
    Host.reduce (FloatOps.maximumf (F := Ideal) (φ := .f32)) x init h hu (ix4 a0 a1 a2 a3)
      = Finset.univ.fold max (init (Shape.Idx.first hu)) fun k : Fin n4 => x (ix5 a0 a1 a2 a3 k) := by
  pointwise []

theorem top_at (sc : FVec Ideal S4x8x2x8192x8192 .f32) (b : Fin 4) (s : Fin 8192) (h : Fin 8) (p : Fin 2) :
    top sc (ix4 b h p s) = Finset.univ.fold max ⊥ fun i : Fin 8192 => sc (ix5 b h p s i) := by
  have hb : Ideal.ofBits .f32 0xFF800000#32 = ⊥ := by
    simp [Ideal.ofBits, Ideal.ieee]
  have e := reduce_last sc (constant (F := Ideal) S_ .f32 0xFF800000#32) reducesTo_S4x8x2x8192x8192_S4x8x2x8192_d4 h_S_ b h p s
  obtain ⟨w, hw⟩ : ∃ w, w = Host.reduce (FloatOps.maximumf (F := Ideal) (φ := .f32)) sc (constant (F := Ideal) S_ .f32 0xFF800000#32) reducesTo_S4x8x2x8192x8192_S4x8x2x8192_d4 h_S_ := ⟨_, rfl⟩
  rw [← hw] at e
  unfold top
  rw [← hw]
  have e' : w (ix4 b h p s) = Finset.univ.fold max ⊥ fun i : Fin 8192 => sc (ix5 b h p s i) := by
    rw [e, ← hb]; rfl
  clear hw e
  rw [← e']
  pointwise []
  rw [hb]
  exact max_eq_right bot_le

theorem weights_at (sc : FVec Ideal S4x8x2x8192x8192 .f32) (b : Fin 4) (s i : Fin 8192) (h : Fin 8) (p : Fin 2) :
    weights sc (ix5 b h p s i) = Ideal.div (Ideal.exp (sc (ix5 b h p s i) - top sc (ix4 b h p s)))
      (∑ j : Fin 8192, Ideal.exp (sc (ix5 b h p s j) - top sc (ix4 b h p s))) := by
  pointwise [weights, raised]

theorem factor_at (l : FVec Ideal S4x64 .f32) : factor l ix0 = Cert.Spec.lam l := by
  pointwise [factor]
  rfl

theorem mixed_at (l : FVec Ideal S4x64 .f32) (v : FVec Ideal S4x8192x1024 .bf16) (p : FVec Ideal S4x8x2x8192x8192 .f32) (b : Fin 4) (s : Fin 8192) (h : Fin 8) (e : Fin 128) :
    mixed l v p (ix4 b s h e) = ∑ i : Fin 8192, v (ix3 b i (Cert.Spec.col h e)) * (p (ix5 b h 0 s i) - Cert.Spec.lam l * p (ix5 b h 1 s i)) := by
  pointwise [mixed]
  rw [factor_at]
  rfl

theorem scaled_at (g : FVec Ideal S128 .f32) (o : FVec Ideal S4x8192x8x128 .f32) (b : Fin 4) (s : Fin 8192) (h : Fin 8) (e : Fin 128) :
    scaled g o (ix3 b s (Cert.Spec.col h e)) = Cert.Soft.norm (Ideal.ofBits .f32 0x43000000#32) (Ideal.ofBits .f32 0x3727C5AC#32) (fun e : Fin 128 => o (ix4 b s h e)) e
      * g (ix1 e) * Ideal.ofBits .f32 0x3EE34C57#32 := by
  unfold Cert.Spec.col
  pointwise [scaled]
  rfl

/-- The reference at one element. -/
theorem ref_at (c : Dev nD) (b : Fin 4) (s : Fin 8192) (h : Fin 8) (e : Fin 128) :
    res_main_v66 m c (ix3 b s (Cert.Spec.col h e)) = Cert.Spec.attn (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) b s h e := by
  rw [res_eq, scaled_at]
  simp only [mixed_at, weights_at, top_at, scored_at]
  rfl

end Cert.ReferenceIdeal.Attn
-- ==== Proof.Pre.lean ====
module

public import proofs.«01_k».proof.Defs
public import Idealize.ShloMosaic.Lib.Pointwise

@[expose] public section

noncomputable section

namespace Cert.Finite

open Idealize.ShloMosaic

/-- The side conditions of the precondition's operations. -/
theorem pre_facts : Cert.Pre_finite_values.Facts := ⟨by decide, by decide⟩

/-- A value whose magnitude is below infinity is a real. -/
theorem real_of_lt {x w : EReal} (hw : w = ⊤) (h : Ideal.cmp .olt (max x (-x)) w = 1#1) : ∃ r : ℝ, x = (r : EReal) := by
  have hlt : max x (-x) < ⊤ := by
    by_contra hn
    rw [hw] at h
    simp [Ideal.cmp, hn] at h
  have h1 : x ≠ ⊤ := fun e => by simp [e] at hlt
  have h2 : x ≠ ⊥ := fun e => by simp [e] at hlt
  exact ⟨x.toReal, (EReal.coe_toReal h1 h2).symm⟩

theorem word32 : Ideal.ofBits .f32 0x7F800000#32 = ⊤ := by
  simp [Ideal.ofBits, Ideal.ieee]

theorem word16 : Ideal.ofBits .bf16 0x7F80#16 = ⊤ := by
  simp [Ideal.ofBits, Ideal.ieee]

/-- Under the precondition the four vectors hold reals. -/
theorem real0 [Cert.Pre_finite_values.Facts] {x0 : FVec Ideal Cert.Pre_finite_values.S4x64 .f32} {x1 x2 x3 x4}
    (h : (Cert.Pre_finite_values.fn (F := Ideal) x0 x1 x2 x3 x4).1 = fun _ => 1#1) (i) : ∃ r : ℝ, x0 i = (r : EReal) :=
  real_of_lt word32 (congrFun h i)

/-- Under the precondition the values are reals. -/
theorem real4 [Cert.Pre_finite_values.Facts] {x0 x1 x2 x3} {x4 : FVec Ideal Cert.Pre_finite_values.S4x8192x1024 .bf16}
    (h : (Cert.Pre_finite_values.fn (F := Ideal) x0 x1 x2 x3 x4).2 = fun _ => 1#1) (i) : ∃ r : ℝ, x4 i = (r : EReal) :=
  real_of_lt word16 (congrFun h i)

end Cert.Finite
-- ==== Proof.Norm.lean ====
module

public import Idealize.ShloMosaic.Lib.Pointwise

@[expose] public section

noncomputable section

namespace Cert

open Idealize.ShloMosaic
open scoped BigOperators

/-- A row over its root mean square, times `g`. -/
def rms (x g : Fin 1024 → EReal) (k : Fin 1024) : EReal :=
  x k * Ideal.rsqrt (Ideal.div (∑ j, x j * x j) (Ideal.ofBits .f32 0x44800000#32) + Ideal.ofBits .f32 0x358637BD#32) * g k

/-- A row over its root mean square, times `g` and `1 + s`, shifted by `h`. -/
def norm (x g s h : Fin 1024 → EReal) (k : Fin 1024) : EReal :=
  rms x g k * (1 + s k) + h k

theorem rms_congr {x x' g g' : Fin 1024 → EReal} (hx : ∀ j, x j = x' j) (hg : ∀ j, g j = g' j) (k : Fin 1024) : rms x g k = rms x' g' k := by
  rw [funext hx, funext hg]

theorem norm_congr {x x' g g' s s' h h' : Fin 1024 → EReal} (hx : ∀ j, x j = x' j) (hg : ∀ j, g j = g' j) (hs : ∀ j, s j = s' j)
    (hh : ∀ j, h j = h' j) (k : Fin 1024) : norm x g s h k = norm x' g' s' h' k := by
  rw [funext hx, funext hg, funext hs, funext hh]

/-- `z` times its logistic value. -/
def silu (z : EReal) : EReal := z * Ideal.logistic z

end Cert

end
-- ==== Proof.RefIn.lean ====
module

public import proofs.«01_k».proof.Proof.Norm
public import proofs.«01_k».proof.Proof.Gen.Reference2Ideal.Run
public import Idealize.ShloMosaic.Lib.Pointwise

@[expose] public section

set_option maxRecDepth 16384

noncomputable section

namespace Cert.Reference2Ideal.In

open Cert.Reference2Ideal Cert.Reference2Ideal.Gen Cert.Reference2Ideal.Value Idealize.ShloMosaic Idealize.ShloMosaic.TcCoe
open scoped BigOperators

/-- The windowed attention's heads in their own order. -/
def heads (y : FVec Ideal S4x8192x1024 .bf16) : FVec Ideal S4x8192x1024 .f32 :=
  shapeCast _ (transpose S4x8192x2x2x4x64 [0, 1, 2, 4, 3, 5] (shapeCast _ (extf .f32 y bitsLt_bf16_f32) shapeCasts_S4x8192x1024_S4x8192x2x4x2x64) transposes_S4x8192x2x4x2x64_S4x8192x2x2x4x64_0_1_2_4_3_5) shapeCasts_S4x8192x2x2x4x64_S4x8192x1024

/-- The residual sum. -/
def summed (a0 a1 : FVec Ideal S4x8192x1024 .bf16) (a2 : FVec Ideal S1024x1024 .f32) (a3 : FVec Ideal S4x8192x1024 .f32) (a4 : FVec Ideal S4x1024 .f32) : FVec Ideal S4x8192x1024 .f32 :=
  addf a3 (mulf (broadcastInDim S4x8192x1024 ![0, 1, 2] bcast_S4x1x1024_S4x8192x1024_0_1_2 (broadcastInDim S4x1x1024 ![0, 2] bcast_S4x1024_S4x1x1024_0_2 a4)) (Host.dotGeneral dot_S4x8192x1024_S1024x1024_S4x8192x1024_2_0_01_1_n_n none (mulf (heads a0) (heads a1)) a2))

/-- The normalised, scaled and shifted activation. -/
def normed (x : FVec Ideal S4x8192x1024 .f32) (a5 a6 : FVec Ideal S4x1024 .f32) (a7 : FVec Ideal S1024 .f32) : FVec Ideal S4x8192x1024 .f32 :=
  addf (mulf (mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a7))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 a6)))) (broadcastInDim S4x8192x1024 ![0, 1, 2] bcast_S4x1x1024_S4x8192x1024_0_1_2 (broadcastInDim S4x1x1024 ![0, 2] bcast_S4x1024_S4x1x1024_0_2 a5))

/-- The input projection. -/
def projected (h : FVec Ideal S4x8192x1024 .f32) (w : FVec Ideal S1024x4096 .f32) : FVec Ideal S4x8192x4096 .f32 :=
  Host.dotGeneral dot_S4x8192x1024_S1024x4096_S4x8192x4096_2_0_01_1_n_n none h w

/-- The rotary angles. -/
def angle : FVec Ideal S8192x32 .f32 :=
  mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

/-- The rotary embedding of each head component. -/
def turned (y : FVec Ideal S4x8192x8x2x64 .f32) : FVec Ideal S4x8192x8x2x64 .f32 :=
  concatenate S4x8192x8x2x64 4 [⟨S4x8192x8x2x32, (subf (mulf (extractStridedSlice S4x8192x8x2x32 ![0, 0, 0, 0, 0] y slices_S4x8192x8x2x64_S4x8192x8x2x32_0_0_0_0_0) (broadcastInDim S4x8192x8x2x32 ![0, 1, 2, 3, 4] bcast_S1x8192x1x1x32_S4x8192x8x2x32_0_1_2_3_4 (broadcastInDim S1x8192x1x1x32 ![1, 2, 3, 4] bcast_S8192x1x1x32_S1x8192x1x1x32_1_2_3_4 (shapeCast _ (Host.cos angle) shapeCasts_S8192x32_S8192x1x1x32)))) (mulf (extractStridedSlice S4x8192x8x2x32 ![0, 0, 0, 0, 32] y slices_S4x8192x8x2x64_S4x8192x8x2x32_0_0_0_0_32) (broadcastInDim S4x8192x8x2x32 ![0, 1, 2, 3, 4] bcast_S1x8192x1x1x32_S4x8192x8x2x32_0_1_2_3_4 (broadcastInDim S1x8192x1x1x32 ![1, 2, 3, 4] bcast_S8192x1x1x32_S1x8192x1x1x32_1_2_3_4 (shapeCast _ (Host.sin angle) shapeCasts_S8192x32_S8192x1x1x32)))))⟩, ⟨S4x8192x8x2x32, (addf (mulf (extractStridedSlice S4x8192x8x2x32 ![0, 0, 0, 0, 32] y slices_S4x8192x8x2x64_S4x8192x8x2x32_0_0_0_0_32) (broadcastInDim S4x8192x8x2x32 ![0, 1, 2, 3, 4] bcast_S1x8192x1x1x32_S4x8192x8x2x32_0_1_2_3_4 (broadcastInDim S1x8192x1x1x32 ![1, 2, 3, 4] bcast_S8192x1x1x32_S1x8192x1x1x32_1_2_3_4 (shapeCast _ (Host.cos angle) shapeCasts_S8192x32_S8192x1x1x32)))) (mulf (extractStridedSlice S4x8192x8x2x32 ![0, 0, 0, 0, 0] y slices_S4x8192x8x2x64_S4x8192x8x2x32_0_0_0_0_0) (broadcastInDim S4x8192x8x2x32 ![0, 1, 2, 3, 4] bcast_S1x8192x1x1x32_S4x8192x8x2x32_0_1_2_3_4 (broadcastInDim S1x8192x1x1x32 ![1, 2, 3, 4] bcast_S8192x1x1x32_S1x8192x1x1x32_1_2_3_4 (shapeCast _ (Host.sin angle) shapeCasts_S8192x32_S8192x1x1x32)))))⟩] concatenates_S4x8192x8x2x32_S4x8192x8x2x32_S4x8192x8x2x64_d4

/-- The component pairs' halves laid out as the attention reads them. -/
def laid (y : FVec Ideal S4x8192x8x2x64 .f32) : FVec Ideal S4x8192x1024 .bf16 :=
  truncf .bf16 (shapeCast _ (transpose S4x8192x8x2x2x32 [0, 1, 2, 4, 3, 5] (shapeCast _ y shapeCasts_S4x8192x8x2x64_S4x8192x8x2x2x32) transposes_S4x8192x8x2x2x32_S4x8192x8x2x2x32_0_1_2_4_3_5) shapeCasts_S4x8192x8x2x2x32_S4x8192x1024) bitsLt_bf16_f32

/-- The query columns as heads and components. -/
def cols0 (p : FVec Ideal S4x8192x4096 .f32) : FVec Ideal S4x8192x8x2x64 .f32 :=
  shapeCast _ (extractStridedSlice S4x8192x1024 ![0, 0, 0] p slices_S4x8192x4096_S4x8192x1024_0_0_0) shapeCasts_S4x8192x1024_S4x8192x8x2x64

/-- The key columns as heads and components. -/
def cols1 (p : FVec Ideal S4x8192x4096 .f32) : FVec Ideal S4x8192x8x2x64 .f32 :=
  shapeCast _ (extractStridedSlice S4x8192x1024 ![0, 0, 1024] p slices_S4x8192x4096_S4x8192x1024_0_0_1024) shapeCasts_S4x8192x1024_S4x8192x8x2x64

/-- The rotated, scaled queries as the attention reads them. -/
def queries (p : FVec Ideal S4x8192x4096 .f32) : FVec Ideal S4x8192x1024 .bf16 :=
  laid (mulf (turned (cols0 p)) (broadcastInDim S4x8192x8x2x64 ![] bcast_S_S4x8192x8x2x64 (constant S_ .f32 0x3E38AA3B#32)))

/-- The rotated keys as the attention reads them. -/
def keys (p : FVec Ideal S4x8192x4096 .f32) : FVec Ideal S4x8192x1024 .bf16 :=
  laid (turned (cols1 p))

/-- The values. -/
def values (p : FVec Ideal S4x8192x4096 .f32) : FVec Ideal S4x8192x1024 .bf16 :=
  truncf .bf16 (extractStridedSlice S4x8192x1024 ![0, 0, 2048] p slices_S4x8192x4096_S4x8192x1024_0_0_2048) bitsLt_bf16_f32

/-- The gate path. -/
def gates (p : FVec Ideal S4x8192x4096 .f32) : FVec Ideal S4x8192x1024 .bf16 :=
  truncf .bf16 (mulf (extractStridedSlice S4x8192x1024 ![0, 0, 3072] p slices_S4x8192x4096_S4x8192x1024_0_0_3072) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (extractStridedSlice S4x8192x1024 ![0, 0, 3072] p slices_S4x8192x4096_S4x8192x1024_0_0_3072)))))) bitsLt_bf16_f32

variable (m : (ℓ : Loc nD τ sig) → Buf (Elt Ideal) ℓ)

/-- The residual sum over the arguments. -/
def X (c : Dev nD) : FVec Ideal S4x8192x1024 .f32 :=
  summed (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The input projection over the arguments. -/
def P (c : Dev nD) : FVec Ideal S4x8192x4096 .f32 :=
  projected (normed (X m c) (m ((c.tc : Thread nD τ).loc main_arg5)) (m ((c.tc : Thread nD τ).loc main_arg6)) (m ((c.tc : Thread nD τ).loc main_arg7)))
    (m ((c.tc : Thread nD τ).loc main_arg8))

theorem res_q (c : Dev nD) : res_main_v103 m c = queries (P m c) := rfl
theorem res_k (c : Dev nD) : res_main_v107 m c = keys (P m c) := rfl
theorem res_v (c : Dev nD) : res_main_v108 m c = values (P m c) := rfl
theorem res_z (c : Dev nD) : res_main_v110 m c = gates (P m c) := rfl

/-- The column of the windowed attention's half `a`, head `g` of four, of two, lane `d`, in the order the heads lie. -/
def cell (a : Fin 2) (g : Fin 4) (c : Fin 2) (d : Fin 64) : Fin 1024 := ⟨a.val * 512 + g.val * 128 + c.val * 64 + d.val, by omega⟩

theorem heads_at (y : FVec Ideal S4x8192x1024 .bf16) (b : Fin 4) (s : Fin 8192) (a : Fin 2) (g : Fin 4) (c : Fin 2) (d : Fin 64) :
    heads y (ix3 b s ⟨a.val * 512 + c.val * 256 + g.val * 64 + d.val, by omega⟩) = y (ix3 b s (cell a g c d)) := by
  pointwise [heads]
  rfl

theorem summed_at (a0 a1 : FVec Ideal S4x8192x1024 .bf16) (a2 : FVec Ideal S1024x1024 .f32) (a3 : FVec Ideal S4x8192x1024 .f32) (a4 : FVec Ideal S4x1024 .f32)
    (b : Fin 4) (s : Fin 8192) (k : Fin 1024) :
    summed a0 a1 a2 a3 a4 (ix3 b s k) = a3 (ix3 b s k) + a4 (ix2 b k) * ∑ j : Fin 1024, heads a0 (ix3 b s j) * heads a1 (ix3 b s j) * a2 (ix2 j k) := by
  pointwise [summed]

theorem normed_at (x : FVec Ideal S4x8192x1024 .f32) (a5 a6 : FVec Ideal S4x1024 .f32) (a7 : FVec Ideal S1024 .f32)
    (b : Fin 4) (s : Fin 8192) (k : Fin 1024) :
    normed x a5 a6 a7 (ix3 b s k) = Cert.norm (fun j => x (ix3 b s j)) (fun j => a7 (ix1 j)) (fun j => a6 (ix2 b j)) (fun j => a5 (ix2 b j)) k := by
  pointwise [normed, Cert.norm, Cert.rms]

theorem projected_at (h : FVec Ideal S4x8192x1024 .f32) (w : FVec Ideal S1024x4096 .f32) (b : Fin 4) (s : Fin 8192) (d : Fin 4096) :
    projected h w (ix3 b s d) = ∑ k : Fin 1024, h (ix3 b s k) * w (ix2 k d) := by
  pointwise [projected]

theorem turned_lo (y : FVec Ideal S4x8192x8x2x64 .f32) (b : Fin 4) (s : Fin 8192) (h : Fin 8) (c : Fin 2) (j : Fin 32) :
    turned y (ix5 b s h c ⟨j.val, by omega⟩) = y (ix5 b s h c ⟨j.val, by omega⟩) * Ideal.cos (angle (ix2 s j)) - y (ix5 b s h c ⟨32 + j.val, by omega⟩) * Ideal.sin (angle (ix2 s j)) := by
  pointwise [turned]

theorem turned_hi (y : FVec Ideal S4x8192x8x2x64 .f32) (b : Fin 4) (s : Fin 8192) (h : Fin 8) (c : Fin 2) (j : Fin 32) :
    turned y (ix5 b s h c ⟨32 + j.val, by omega⟩) = y (ix5 b s h c ⟨32 + j.val, by omega⟩) * Ideal.cos (angle (ix2 s j)) + y (ix5 b s h c ⟨j.val, by omega⟩) * Ideal.sin (angle (ix2 s j)) := by
  pointwise [turned]

theorem values_at (p : FVec Ideal S4x8192x4096 .f32) (b : Fin 4) (s : Fin 8192) (d : Fin 1024) :
    values p (ix3 b s d) = p (ix3 b s ⟨2048 + d.val, by omega⟩) := by
  pointwise [values]

theorem gates_at (p : FVec Ideal S4x8192x4096 .f32) (b : Fin 4) (s : Fin 8192) (d : Fin 1024) :
    gates p (ix3 b s d) = Cert.silu (p (ix3 b s ⟨3072 + d.val, by omega⟩)) := by
  pointwise [gates, Cert.silu]
  rfl

theorem laid_at (y : FVec Ideal S4x8192x8x2x64 .f32) (b : Fin 4) (s : Fin 8192) (h : Fin 8) (u : Fin 2) (c : Fin 2) (j : Fin 32) :
    laid y (ix3 b s ⟨h.val * 128 + u.val * 64 + c.val * 32 + j.val, by omega⟩) = y (ix5 b s h c ⟨u.val * 32 + j.val, by omega⟩) := by
  pointwise [laid]

theorem cols0_at (p : FVec Ideal S4x8192x4096 .f32) (b : Fin 4) (s : Fin 8192) (h : Fin 8) (c : Fin 2) (d : Fin 64) :
    cols0 p (ix5 b s h c d) = p (ix3 b s ⟨h.val * 128 + c.val * 64 + d.val, by omega⟩) := by
  pointwise [cols0]

theorem cols1_at (p : FVec Ideal S4x8192x4096 .f32) (b : Fin 4) (s : Fin 8192) (h : Fin 8) (c : Fin 2) (d : Fin 64) :
    cols1 p (ix5 b s h c d) = p (ix3 b s ⟨1024 + (h.val * 128 + c.val * 64 + d.val), by omega⟩) := by
  pointwise [cols1]

theorem queries_at (p : FVec Ideal S4x8192x4096 .f32) (b : Fin 4) (s : Fin 8192) (h : Fin 8) (u : Fin 2) (c : Fin 2) (j : Fin 32) :
    queries p (ix3 b s ⟨h.val * 128 + u.val * 64 + c.val * 32 + j.val, by omega⟩) = turned (cols0 p) (ix5 b s h c ⟨u.val * 32 + j.val, by omega⟩) * Ideal.ofBits .f32 0x3E38AA3B#32 := by
  refine (laid_at _ b s h u c j).trans ?_
  pointwise []

end Cert.Reference2Ideal.In

end
-- ==== Proof.InTab.lean ====
module

public import proofs.«01_k».proof.Proof.RefIn
public import proofs.«01_k».proof.Proof.Gen.Kernel2Ideal.Value
public import Idealize.ShloMosaic.Lib.Pipeline.ValueKit
public import Idealize.ShloMosaic.Lib.Routing.Ops

@[expose] public section

set_option maxRecDepth 16384

noncomputable section

namespace Cert.Kernel2Ideal.In

open Cert.Kernel2Ideal Cert.Kernel2Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

theorem idx_val : ∀ t : Fin cfg0.N, win0_0.index t = ![t.val / 16, t.val % 16, 0]
    ∧ win0_1.index t = ![t.val / 16, t.val % 16, 0]
    ∧ win0_2.index t = ![0, 0]
    ∧ win0_3.index t = ![t.val / 16, t.val % 16, 0]
    ∧ win0_4.index t = ![t.val / 16, 0, 0]
    ∧ win0_5.index t = ![t.val / 16, 0, 0]
    ∧ win0_6.index t = ![t.val / 16, 0, 0]
    ∧ win0_7.index t = ![0, 0]
    ∧ win0_8.index t = ![0, 0]
    ∧ win0_9.index t = ![t.val % 16, 0]
    ∧ win0_10.index t = ![t.val % 16, 0]
    ∧ win0_11.index t = ![t.val % 16, 0]
    ∧ win0_12.index t = ![t.val % 16, 0]
    ∧ win0_13.index t = ![t.val / 16, t.val % 16, 0]
    ∧ win0_14.index t = ![t.val / 16, t.val % 16, 0]
    ∧ win0_15.index t = ![t.val / 16, t.val % 16, 0]
    ∧ win0_16.index t = ![t.val / 16, t.val % 16, 0]
    ∧ win0_17.index t = ![t.val / 16, t.val % 16, 0] :=
  (by decide +kernel : ∀ t : Fin grid0.N, _)

/-- The row of the output projection that row `n` of the stored one is. -/
def rowOf (n : Nat) : Nat := n / 512 * 512 + n % 128 / 64 * 256 + n % 512 / 128 * 64 + n % 64

/-- The column of the input projection that column `n` of the stored one is. -/
def colOf (n : Nat) : Nat := if n < 2048 then n / 128 * 128 + n % 64 / 32 * 64 + n % 128 / 64 * 32 + n % 32 else n

theorem rowOf_lt (n : Fin 1024) : rowOf n.val < 1024 := by unfold rowOf; omega
theorem colOf_lt (n : Fin 4096) : colOf n.val < 4096 := by unfold colOf; split <;> omega

theorem lit0_eq : ∀ n : Fin 1024, lit0 n = BitVec.ofNat 32 (rowOf n.val) := by decide +kernel
theorem lit1_eq : ∀ n : Fin 4096, lit1 n = BitVec.ofNat 32 (colOf n.val) := by decide +kernel

/-- A table's columns taken one by one: where the indices hold column `b` at `(y, 0)`, column `y` of the result is column `b`. -/
theorem taken_col (x : FVec Ideal S1024x4096 .f32) (i : IVec S4096x1 32) (k : Fin 1024) (y b : Fin 4096)
    (hb : i (ix2 y (0 : Fin 1)) = BitVec.ofNat 32 b.val) :
    Host.gather gather_S1024x4096_S4096x1_S1024x4096_0_1_n_n_1_1_10241 x i (ix2 k y) = x (ix2 k b) := by
  unfold Host.gather
  refine congrArg x (funext fun a => Fin.ext ?_)
  have hs : gather_S1024x4096_S4096x1_S1024x4096_0_1_n_n_1_1_10241.siIdx (ix2 k y) ⟨0, by decide⟩ = ix2 y (0 : Fin 1) := by
    funext a; refine Fin.ext ?_
    match a with
    | ⟨0, _⟩ => rfl
    | ⟨1, _⟩ => rfl
  match a with
  | ⟨0, _⟩ =>
    show 0 + 0 + k.val = k.val
    omega
  | ⟨1, _⟩ =>
    show min (i (gather_S1024x4096_S4096x1_S1024x4096_0_1_n_n_1_1_10241.siIdx (ix2 k y) ⟨0, by decide⟩)).toInt.toNat 4095 + 0 + 0 = b.val
    have hn : (BitVec.ofNat 32 b.val).toNat = b.val := by
      rw [BitVec.toNat_ofNat]; exact Nat.mod_eq_of_lt (by omega)
    rw [hs, hb, BitVec.toInt_eq_toNat_of_lt (by rw [hn]; omega), hn, Int.toNat_natCast]
    omega

/-- The row indices of the output projection. -/
def rowIx : IVec S1024x1 32 :=
  broadcastInDim S1024x1 ![0] bcast_S1024_S1024x1_0
        (select (constantI S1024 1 0#1)
          (addi (fun i => lit0 (S1024.rowMajor i)) (broadcastInDim S1024 ![] bcast_S_S1024 (constantI S_ 32 1024#32)))
          fun i => lit0 (S1024.rowMajor i))

/-- The column indices of the input projection. -/
def colIx : IVec S4096x1 32 :=
  broadcastInDim S4096x1 ![0] bcast_S4096_S4096x1_0
        (select (constantI S4096 1 0#1)
          (addi (fun i => lit1 (S4096.rowMajor i)) (broadcastInDim S4096 ![] bcast_S_S4096 (constantI S_ 32 4096#32)))
          fun i => lit1 (S4096.rowMajor i))

theorem rowIx_at (j : Fin 1024) (u : Fin 1) : rowIx (ix2 j u) = BitVec.ofNat 32 (rowOf j.val) := by
  refine Eq.trans ?_ (lit0_eq j)
  pointwise [rowIx]
  exact congrArg lit0 (Fin.ext (Shape.rowMajor_val_one _))

theorem colIx_at (j : Fin 4096) (u : Fin 1) : colIx (ix2 j u) = BitVec.ofNat 32 (colOf j.val) := by
  refine Eq.trans ?_ (lit1_eq j)
  pointwise [colIx]
  exact congrArg lit1 (Fin.ext (Shape.rowMajor_val_one _))

theorem read2 (c : Dev nD) (t : Fin cfg0.N) (j k : Fin 1024) :
    (iblk m c 2 t : Vec Ideal S1024x1024 .bf16) (ix2 j k) = m ((c : Thread nD τ).loc main_arg2) (ix2 ⟨rowOf j.val, rowOf_lt j⟩ k) :=
  Eq.trans (b := Host.gather gather_S1024x1024_S1024x1_S1024x1024_1_0_n_n_0_1_11024 (m ((c : Thread nD τ).loc main_arg2)) rowIx (ix2 j k))
    (by blk_point [iblk, V, idx_val t, rowIx])
    (Routing.gather_row gather_S1024x1024_S1024x1_S1024x1024_1_0_n_n_0_1_11024 rfl rfl rfl rfl rfl _ rowIx j k ⟨rowOf j.val, rowOf_lt j⟩ (rowIx_at j 0) (by norm_num))

theorem read8 (c : Dev nD) (t : Fin cfg0.N) (k : Fin 1024) (j : Fin 4096) :
    (iblk m c 8 t : Vec Ideal S1024x4096 .bf16) (ix2 k j) = m ((c : Thread nD τ).loc main_arg8) (ix2 k ⟨colOf j.val, colOf_lt j⟩) :=
  Eq.trans (b := Host.gather gather_S1024x4096_S4096x1_S1024x4096_0_1_n_n_1_1_10241 (m ((c : Thread nD τ).loc main_arg8)) colIx (ix2 k j))
    (by blk_point [iblk, V, idx_val t, colIx])
    (taken_col _ colIx k j ⟨colOf j.val, colOf_lt j⟩ (colIx_at j 0))

/-- The rotary angles. -/
def angle : FVec Ideal S8192x32 .f32 :=
  mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

theorem angle_eq : angle = Cert.Reference2Ideal.In.angle := rfl

/-- The cosines over a head's lanes. -/
def cosines : FVec Ideal S8192x128 .f32 :=
  shapeCast _ (broadcastInDim S1x8192x4x32 ![0, 1, 2, 3] bcast_S1x8192x1x32_S1x8192x4x32_0_1_2_3 (shapeCast _ (Host.cos angle) shapeCasts_S8192x32_S1x8192x1x32)) shapeCasts_S1x8192x4x32_S8192x128

/-- The sines over half a head's lanes. -/
def sinHalf : FVec Ideal S8192x64 .f32 :=
  shapeCast _ (broadcastInDim S1x8192x2x32 ![0, 1, 2, 3] bcast_S1x8192x1x32_S1x8192x2x32_0_1_2_3 (shapeCast _ (Host.sin angle) shapeCasts_S8192x32_S1x8192x1x32)) shapeCasts_S1x8192x2x32_S8192x64

/-- The signed sines over a head's lanes. -/
def sines : FVec Ideal S8192x128 .f32 :=
  concatenate S8192x128 1 [⟨S8192x64, Host.negf sinHalf⟩, ⟨S8192x64, sinHalf⟩] concatenates_S8192x64_S8192x64_S8192x128_d1

theorem cosines_at (s : Fin 8192) (u e : Fin 2) (j : Fin 32) :
    cosines (ix2 s ⟨u.val * 64 + e.val * 32 + j.val, by omega⟩) = Ideal.cos (angle (ix2 s j)) := by
  pointwise [cosines]

theorem sines_lo (s : Fin 8192) (e : Fin 2) (j : Fin 32) :
    sines (ix2 s ⟨e.val * 32 + j.val, by omega⟩) = -Ideal.sin (angle (ix2 s j)) := by
  pointwise [sines, sinHalf]
  rw [dif_pos (by omega)]

theorem sines_hi (s : Fin 8192) (e : Fin 2) (j : Fin 32) :
    sines (ix2 s ⟨64 + (e.val * 32 + j.val), by omega⟩) = Ideal.sin (angle (ix2 s j)) := by
  pointwise [sines, sinHalf]

theorem read9 (c : Dev nD) (t : Fin cfg0.N) (r : Fin 512) (s : Fin 8192) (d : Fin 128) (hs : s.val = t.val % 16 * 512 + r.val) :
    (iblk m c 9 t : Vec Ideal S512x128 .f32) (ix2 r d) = cosines (ix2 s d) := by
  have hV : V m c (Pipeline.arrRef spec0 9) = cosines := rfl
  have e : ((cfg0.win 9).blk t).view.emb (ix2 r d) = ix2 s d := by blk_ext [idx_val t]
  exact (congrFun hV _).trans (congrArg cosines e)

theorem read10 (c : Dev nD) (t : Fin cfg0.N) (r : Fin 512) (s : Fin 8192) (d : Fin 128) (hs : s.val = t.val % 16 * 512 + r.val) :
    (iblk m c 10 t : Vec Ideal S512x128 .f32) (ix2 r d) = sines (ix2 s d) := by
  have hV : V m c (Pipeline.arrRef spec0 10) = sines := rfl
  have e : ((cfg0.win 10).blk t).view.emb (ix2 r d) = ix2 s d := by blk_ext [idx_val t]
  exact (congrFun hV _).trans (congrArg sines e)

theorem read11 (c : Dev nD) (t : Fin cfg0.N) (r : Fin 512) (s : Fin 8192) (d : Fin 128) (hs : s.val = t.val % 16 * 512 + r.val) :
    (iblk m c 11 t : Vec Ideal S512x128 .f32) (ix2 r d) = cosines (ix2 s d) * Ideal.ofBits .f32 0x3E38AA3B#32 := by
  blk_point [iblk, V, idx_val t, cosines, angle]

theorem read12 (c : Dev nD) (t : Fin cfg0.N) (r : Fin 512) (s : Fin 8192) (d : Fin 128) (hs : s.val = t.val % 16 * 512 + r.val) :
    (iblk m c 12 t : Vec Ideal S512x128 .f32) (ix2 r d) = sines (ix2 s d) * Ideal.ofBits .f32 0x3E38AA3B#32 := by
  blk_point [iblk, V, idx_val t, sines, sinHalf, angle]

end Cert.Kernel2Ideal.In

end
-- ==== Proof.InPay.lean ====
module

public import proofs.«01_k».proof.Proof.InTab

@[expose] public section

set_option maxRecDepth 16384

noncomputable section

namespace Cert.Kernel2Ideal.In

open Cert.Kernel2Ideal Cert.Kernel2Ideal.Gen Idealize.ShloMosaic Idealize.ShloMosaic.TcCoe Idealize.SL.Sem
open Idealize.ShloMosaic.Pipeline (Dat)
open scoped BigOperators

/-- The residual rows of a block. -/
theorem summed_at (o z : Vec Ideal S1x512x1024 .bf16) (w : Vec Ideal S1024x1024 .bf16) (x : Vec Ideal S1x512x1024 .f32) (g : Vec Ideal S1x1x1024 .f32)
    (r : Fin 512) (k : Fin 1024) :
    k0_pay2 (F := Ideal) o z w x g (ix2 r k) = x (ix3 0 r k) + g (ix3 0 0 k) * ∑ j : Fin 1024, o (ix3 0 r j) * z (ix3 0 r j) * w (ix2 j k) := by
  pointwise [k0_pay2]

theorem stored_at (o z : Vec Ideal S1x512x1024 .bf16) (w : Vec Ideal S1024x1024 .bf16) (x : Vec Ideal S1x512x1024 .f32) (g : Vec Ideal S1x1x1024 .f32)
    (u : Fin 1) (r : Fin 512) (k : Fin 1024) :
    k0_pay3 (F := Ideal) o z w x g (ix3 u r k) = k0_pay2 (F := Ideal) o z w x g (ix2 r k) := by
  pointwise [k0_pay3]

/-- The normalised rows of a block. -/
theorem normed_at (o z : Vec Ideal S1x512x1024 .bf16) (w : Vec Ideal S1024x1024 .bf16) (x : Vec Ideal S1x512x1024 .f32) (g : Vec Ideal S1x1x1024 .f32)
    (q : Vec Ideal S1x1024 .f32) (s h : Vec Ideal S1x1x1024 .f32) (r : Fin 512) (k : Fin 1024) :
    k0_pay6 (F := Ideal) (k0_pay4 o z w x g) (k0_pay5 q) s h (ix2 r k) =
      Cert.norm (fun j => k0_pay2 (F := Ideal) o z w x g (ix2 r j)) (fun j => q (ix2 0 j)) (fun j => s (ix3 0 0 j)) (fun j => h (ix3 0 0 j)) k := by
  pointwise [k0_pay6, k0_pay4, k0_pay5, Cert.norm, Cert.rms]

/-- A tile of the projection. -/
theorem proj_at (H : Vec Ideal S512x1024 .bf16) (W : Vec Ideal S1024x512 .bf16) (r d : Fin 512) :
    k0_pay7 (F := Ideal) H W (ix2 r d) = ∑ k : Fin 1024, H (ix2 r k) * W (ix2 k d) := by
  pointwise [k0_pay7]

/-- A tile of four heads rotated. -/
def ropes (S : FVec Ideal S512x512 .f32) (C N : FVec Ideal S512x128 .f32) : FVec Ideal S1x512x512 .bf16 :=
  k0_pay13 S C N
    (addf (mulf (extractStridedSlice S512x128 ![0, 0] S slices_S512x512_o0_0_S512x128) C) (mulf (dynamicRotate 1 64#32 none (extractStridedSlice S512x128 ![0, 0] S slices_S512x512_o0_0_S512x128) rotates_S512x128_d1) N))
    (addf (mulf (extractStridedSlice S512x128 ![0, 128] S slices_S512x512_o0_128_S512x128) C) (mulf (dynamicRotate 1 64#32 none (extractStridedSlice S512x128 ![0, 128] S slices_S512x512_o0_128_S512x128) rotates_S512x128_d1) N))
    (addf (mulf (extractStridedSlice S512x128 ![0, 256] S slices_S512x512_o0_256_S512x128) C) (mulf (dynamicRotate 1 64#32 none (extractStridedSlice S512x128 ![0, 256] S slices_S512x512_o0_256_S512x128) rotates_S512x128_d1) N))

theorem ropes_13 (H : Vec Ideal S512x1024 .bf16) (W : Vec Ideal S1024x512 .bf16) (C N : Vec Ideal S512x128 .f32) :
    k0_pay13 (F := Ideal) (k0_pay7 H W) (k0_pay8 C) (k0_pay9 N) (k0_pay10 H W C N) (k0_pay11 H W C N) (k0_pay12 H W C N) = ropes (k0_pay7 H W) (k0_pay8 C) (k0_pay9 N) := rfl
theorem ropes_14 (H : Vec Ideal S512x1024 .bf16) (W : Vec Ideal S1024x512 .bf16) (C N : Vec Ideal S512x128 .f32) :
    k0_pay15 (F := Ideal) (k0_pay14 H W C N) = ropes (k0_pay7 H W) (k0_pay8 C) (k0_pay9 N) := rfl
theorem ropes_16 (H : Vec Ideal S512x1024 .bf16) (W : Vec Ideal S1024x512 .bf16) (C N : Vec Ideal S512x128 .f32) :
    k0_pay16 (F := Ideal) H W C N = ropes (k0_pay7 H W) (k0_pay8 C) (k0_pay9 N) := rfl
theorem ropes_17 (H : Vec Ideal S512x1024 .bf16) (W : Vec Ideal S1024x512 .bf16) (C N : Vec Ideal S512x128 .f32) :
    k0_pay17 (F := Ideal) H W C N = ropes (k0_pay7 H W) (k0_pay8 C) (k0_pay9 N) := rfl

theorem pay8_at (C : Vec Ideal S512x128 .f32) (r : Fin 512) (d : Fin 128) : k0_pay8 (F := Ideal) C (ix2 r d) = C (ix2 r d) := by
  pointwise [k0_pay8]
theorem pay9_at (C : Vec Ideal S512x128 .f32) (r : Fin 512) (d : Fin 128) : k0_pay9 (F := Ideal) C (ix2 r d) = C (ix2 r d) := by
  pointwise [k0_pay9]

theorem ropes_lo (S : FVec Ideal S512x512 .f32) (C N : FVec Ideal S512x128 .f32) (u : Fin 1) (r : Fin 512) (q : Fin 4) (e : Fin 64) :
    ropes S C N (ix3 u r ⟨q.val * 128 + e.val, by omega⟩) = S (ix2 r ⟨q.val * 128 + e.val, by omega⟩) * C (ix2 r ⟨e.val, by omega⟩)
      + S (ix2 r ⟨q.val * 128 + 64 + e.val, by omega⟩) * N (ix2 r ⟨e.val, by omega⟩) := by
  match q with
  | 0 | 1 | 2 | 3 =>
    pointwise [ropes, k0_pay13]
    repeat (first | rw [dif_pos (by omega)] | rw [dif_neg (by omega)])
    exact congrArg₂ (· + ·)
      (congrArg₂ (· * ·) (congrArg (fun z => S (ix2 r z)) (Fin.ext (by first | omega | (dsimp only; omega)))) (congrArg (fun z => C (ix2 r z)) (Fin.ext (by first | omega | (dsimp only; omega)))))
      (congrArg₂ (· * ·) (congrArg (fun z => S (ix2 r z)) (Fin.ext (by first | omega | (dsimp only; omega)))) (congrArg (fun z => N (ix2 r z)) (Fin.ext (by first | omega | (dsimp only; omega)))))

theorem ropes_hi (S : FVec Ideal S512x512 .f32) (C N : FVec Ideal S512x128 .f32) (u : Fin 1) (r : Fin 512) (q : Fin 4) (e : Fin 64) :
    ropes S C N (ix3 u r ⟨q.val * 128 + 64 + e.val, by omega⟩) = S (ix2 r ⟨q.val * 128 + 64 + e.val, by omega⟩) * C (ix2 r ⟨64 + e.val, by omega⟩)
      + S (ix2 r ⟨q.val * 128 + e.val, by omega⟩) * N (ix2 r ⟨64 + e.val, by omega⟩) := by
  match q with
  | 0 | 1 | 2 | 3 =>
    pointwise [ropes, k0_pay13]
    repeat (first | rw [dif_pos (by omega)] | rw [dif_neg (by omega)])
    exact congrArg₂ (· + ·)
      (congrArg₂ (· * ·) (congrArg (fun z => S (ix2 r z)) (Fin.ext (by first | omega | (dsimp only; omega)))) (congrArg (fun z => C (ix2 r z)) (Fin.ext (by first | omega | (dsimp only; omega)))))
      (congrArg₂ (· * ·) (congrArg (fun z => S (ix2 r z)) (Fin.ext (by first | omega | (dsimp only; omega)))) (congrArg (fun z => N (ix2 r z)) (Fin.ext (by first | omega | (dsimp only; omega)))))

theorem plain_18 (H : Vec Ideal S512x1024 .bf16) (W : Vec Ideal S1024x512 .bf16) (u : Fin 1) (r d : Fin 512) :
    k0_pay19 (F := Ideal) (k0_pay18 H W) (ix3 u r d) = ∑ k : Fin 1024, H (ix2 r k) * W (ix2 k d) := by
  pointwise [k0_pay19, k0_pay18]
theorem plain_20 (H : Vec Ideal S512x1024 .bf16) (W : Vec Ideal S1024x512 .bf16) (u : Fin 1) (r d : Fin 512) :
    k0_pay20 (F := Ideal) H W (ix3 u r d) = ∑ k : Fin 1024, H (ix2 r k) * W (ix2 k d) := by
  pointwise [k0_pay20]
theorem gate_21 (H : Vec Ideal S512x1024 .bf16) (W : Vec Ideal S1024x512 .bf16) (u : Fin 1) (r d : Fin 512) :
    k0_pay21 (F := Ideal) H W (ix3 u r d) = Cert.silu (∑ k : Fin 1024, H (ix2 r k) * W (ix2 k d)) := by
  pointwise [k0_pay21, Cert.silu]
theorem gate_22 (H : Vec Ideal S512x1024 .bf16) (W : Vec Ideal S1024x512 .bf16) (u : Fin 1) (r d : Fin 512) :
    k0_pay1 (F := Ideal) (k0_pay22 H W) (ix3 u r d) = Cert.silu (∑ k : Fin 1024, H (ix2 r k) * W (ix2 k d)) := by
  pointwise [k0_pay1, k0_pay22, Cert.silu]

end Cert.Kernel2Ideal.In

end
-- ==== Proof.InRows.lean ====
module

public import proofs.«01_k».proof.Proof.InPay

@[expose] public section

set_option maxRecDepth 16384

noncomputable section

namespace Cert.Reference2Ideal.In

open Cert.Reference2Ideal Cert.Reference2Ideal.Gen Idealize.ShloMosaic Idealize.ShloMosaic.TcCoe
open scoped BigOperators

/-- The query scale. -/
def scale : EReal := Ideal.ofBits .f32 0x3E38AA3B#32

theorem scale_real : ∃ ν : ℝ, 0 ≤ ν ∧ scale = (ν : EReal) := by
  unfold scale
  simp only [Ideal.ofBits, Ideal.ieee]
  refine ⟨_, ?_, rfl⟩
  rw [if_neg (by decide)]
  positivity

/-- A sum scaled by the query scale, term by term. -/
theorem scale_add (x y : EReal) : (x + y) * scale = x * scale + y * scale := by
  obtain ⟨ν, h0, h⟩ := scale_real
  rw [h]
  exact EReal.right_distrib_of_nonneg_of_ne_top (EReal.coe_nonneg.mpr h0) (EReal.coe_ne_top ν) x y

theorem keys_lo (p : FVec Ideal S4x8192x4096 .f32) (b : Fin 4) (s : Fin 8192) (h : Fin 8) (c : Fin 2) (j : Fin 32) (k : Fin 1024) (x y : Fin 4096)
    (hk : k.val = h.val * 128 + c.val * 32 + j.val) (hx : x.val = 1024 + h.val * 128 + c.val * 64 + j.val)
    (hy : y.val = 1024 + h.val * 128 + c.val * 64 + 32 + j.val) :
    keys p (ix3 b s k) = p (ix3 b s x) * Ideal.cos (angle (ix2 s j)) - p (ix3 b s y) * Ideal.sin (angle (ix2 s j)) := by
  have e := laid_at (turned (cols1 p)) b s h 0 c j
  have ek : (⟨h.val * 128 + (0 : Fin 2).val * 64 + c.val * 32 + j.val, by omega⟩ : Fin 1024) = k := Fin.ext (by simp only [Fin.val_zero]; omega)
  have ed : (⟨(0 : Fin 2).val * 32 + j.val, by omega⟩ : Fin 64) = ⟨j.val, by omega⟩ := Fin.ext (by show 0 * 32 + j.val = j.val; omega)
  rw [ek, ed, turned_lo, cols1_at, cols1_at] at e
  exact e.trans (congrArg₂ (fun u v : Fin 4096 => p (ix3 b s u) * Ideal.cos (angle (ix2 s j)) - p (ix3 b s v) * Ideal.sin (angle (ix2 s j)))
    (Fin.ext (by dsimp only; omega)) (Fin.ext (by dsimp only; omega)))

theorem keys_hi (p : FVec Ideal S4x8192x4096 .f32) (b : Fin 4) (s : Fin 8192) (h : Fin 8) (c : Fin 2) (j : Fin 32) (k : Fin 1024) (x y : Fin 4096)
    (hk : k.val = h.val * 128 + 64 + c.val * 32 + j.val) (hx : x.val = 1024 + h.val * 128 + c.val * 64 + j.val)
    (hy : y.val = 1024 + h.val * 128 + c.val * 64 + 32 + j.val) :
    keys p (ix3 b s k) = p (ix3 b s y) * Ideal.cos (angle (ix2 s j)) + p (ix3 b s x) * Ideal.sin (angle (ix2 s j)) := by
  have e := laid_at (turned (cols1 p)) b s h 1 c j
  have ek : (⟨h.val * 128 + (1 : Fin 2).val * 64 + c.val * 32 + j.val, by omega⟩ : Fin 1024) = k := Fin.ext (by simp only [Fin.val_one]; omega)
  have ed : (⟨(1 : Fin 2).val * 32 + j.val, by omega⟩ : Fin 64) = ⟨32 + j.val, by omega⟩ := Fin.ext (by show 1 * 32 + j.val = 32 + j.val; omega)
  rw [ek, ed, turned_hi, cols1_at, cols1_at] at e
  exact e.trans (congrArg₂ (fun u v : Fin 4096 => p (ix3 b s u) * Ideal.cos (angle (ix2 s j)) + p (ix3 b s v) * Ideal.sin (angle (ix2 s j)))
    (Fin.ext (by dsimp only; omega)) (Fin.ext (by dsimp only; omega)))

theorem queries_lo (p : FVec Ideal S4x8192x4096 .f32) (b : Fin 4) (s : Fin 8192) (h : Fin 8) (c : Fin 2) (j : Fin 32) (k : Fin 1024) (x y : Fin 4096)
    (hk : k.val = h.val * 128 + c.val * 32 + j.val) (hx : x.val = h.val * 128 + c.val * 64 + j.val)
    (hy : y.val = h.val * 128 + c.val * 64 + 32 + j.val) :
    queries p (ix3 b s k) = (p (ix3 b s x) * Ideal.cos (angle (ix2 s j)) - p (ix3 b s y) * Ideal.sin (angle (ix2 s j))) * scale := by
  have e := queries_at p b s h 0 c j
  have ek : (⟨h.val * 128 + (0 : Fin 2).val * 64 + c.val * 32 + j.val, by omega⟩ : Fin 1024) = k := Fin.ext (by simp only [Fin.val_zero]; omega)
  have ed : (⟨(0 : Fin 2).val * 32 + j.val, by omega⟩ : Fin 64) = ⟨j.val, by omega⟩ := Fin.ext (by show 0 * 32 + j.val = j.val; omega)
  rw [ek, ed, turned_lo, cols0_at, cols0_at] at e
  exact e.trans (congrArg₂ (fun u v : Fin 4096 => (p (ix3 b s u) * Ideal.cos (angle (ix2 s j)) - p (ix3 b s v) * Ideal.sin (angle (ix2 s j))) * scale)
    (Fin.ext (by dsimp only; omega)) (Fin.ext (by dsimp only; omega)))

theorem queries_hi (p : FVec Ideal S4x8192x4096 .f32) (b : Fin 4) (s : Fin 8192) (h : Fin 8) (c : Fin 2) (j : Fin 32) (k : Fin 1024) (x y : Fin 4096)
    (hk : k.val = h.val * 128 + 64 + c.val * 32 + j.val) (hx : x.val = h.val * 128 + c.val * 64 + j.val)
    (hy : y.val = h.val * 128 + c.val * 64 + 32 + j.val) :
    queries p (ix3 b s k) = (p (ix3 b s y) * Ideal.cos (angle (ix2 s j)) + p (ix3 b s x) * Ideal.sin (angle (ix2 s j))) * scale := by
  have e := queries_at p b s h 1 c j
  have ek : (⟨h.val * 128 + (1 : Fin 2).val * 64 + c.val * 32 + j.val, by omega⟩ : Fin 1024) = k := Fin.ext (by simp only [Fin.val_one]; omega)
  have ed : (⟨(1 : Fin 2).val * 32 + j.val, by omega⟩ : Fin 64) = ⟨32 + j.val, by omega⟩ := Fin.ext (by show 1 * 32 + j.val = 32 + j.val; omega)
  rw [ek, ed, turned_hi, cols0_at, cols0_at] at e
  exact e.trans (congrArg₂ (fun u v : Fin 4096 => (p (ix3 b s u) * Ideal.cos (angle (ix2 s j)) + p (ix3 b s v) * Ideal.sin (angle (ix2 s j))) * scale)
    (Fin.ext (by dsimp only; omega)) (Fin.ext (by dsimp only; omega)))

theorem heads_row (y : FVec Ideal S4x8192x1024 .bf16) (b : Fin 4) (s : Fin 8192) (j : Fin 1024) :
    heads y (ix3 b s ⟨Cert.Kernel2Ideal.In.rowOf j.val, Cert.Kernel2Ideal.In.rowOf_lt j⟩) = y (ix3 b s j) := by
  have e := heads_at y b s ⟨j.val / 512, by omega⟩ ⟨j.val % 512 / 128, by omega⟩ ⟨j.val % 128 / 64, by omega⟩ ⟨j.val % 64, by omega⟩
  have e2 : cell ⟨j.val / 512, by omega⟩ ⟨j.val % 512 / 128, by omega⟩ ⟨j.val % 128 / 64, by omega⟩ ⟨j.val % 64, by omega⟩ = j :=
    Fin.ext (by unfold cell; dsimp only; omega)
  rw [e2] at e
  exact e

/-- The place of row `n` of the output projection among the stored rows. -/
def rowAt (n : Nat) : Nat := n / 512 * 512 + n % 256 / 64 * 128 + n % 512 / 256 * 64 + n % 64

theorem rowAt_lt (n : Fin 1024) : rowAt n.val < 1024 := by unfold rowAt; omega
theorem rowAt_rowOf : ∀ n : Fin 1024, rowAt (Cert.Kernel2Ideal.In.rowOf n.val) = n.val := by decide +kernel
theorem rowOf_rowAt : ∀ n : Fin 1024, Cert.Kernel2Ideal.In.rowOf (rowAt n.val) = n.val := by decide +kernel

/-- The row permutation. -/
def rowPerm : Equiv.Perm (Fin 1024) where
  toFun j := ⟨Cert.Kernel2Ideal.In.rowOf j.val, Cert.Kernel2Ideal.In.rowOf_lt j⟩
  invFun j := ⟨rowAt j.val, rowAt_lt j⟩
  left_inv j := Fin.ext (rowAt_rowOf j)
  right_inv j := Fin.ext (rowOf_rowAt j)

theorem rowPerm_apply (j : Fin 1024) : rowPerm j = ⟨Cert.Kernel2Ideal.In.rowOf j.val, Cert.Kernel2Ideal.In.rowOf_lt j⟩ := rfl

/-- The residual sum over the heads as they lie. -/
theorem summed_rows (a0 a1 : FVec Ideal S4x8192x1024 .bf16) (a2 : FVec Ideal S1024x1024 .f32) (a3 : FVec Ideal S4x8192x1024 .f32) (a4 : FVec Ideal S4x1024 .f32)
    (b : Fin 4) (s : Fin 8192) (k : Fin 1024) :
    summed a0 a1 a2 a3 a4 (ix3 b s k) = a3 (ix3 b s k) + a4 (ix2 b k) * ∑ j : Fin 1024, a0 (ix3 b s j) * a1 (ix3 b s j)
      * a2 (ix2 ⟨Cert.Kernel2Ideal.In.rowOf j.val, Cert.Kernel2Ideal.In.rowOf_lt j⟩ k) := by
  rw [summed_at, ← Equiv.sum_comp rowPerm]
  refine congrArg (fun z => a3 (ix3 b s k) + a4 (ix2 b k) * z) (Finset.sum_congr rfl fun j _ => ?_)
  rw [rowPerm_apply, heads_row, heads_row]

end Cert.Reference2Ideal.In

namespace Cert.Kernel2Ideal.In

open Cert.Kernel2Ideal Cert.Kernel2Ideal.Gen Idealize.ShloMosaic Idealize.ShloMosaic.TcCoe Idealize.SL.Sem
open Idealize.ShloMosaic.Pipeline (Dat)
open Cert.Reference2Ideal.In (scale scale_add)
open scoped BigOperators

variable (m : (ℓ : Loc nD τ sig) → Buf (Elt Ideal) ℓ)

/-- The residual sum over the arguments. -/
def X (c : Dev nD) : FVec Ideal Cert.Reference2Ideal.S4x8192x1024 .f32 :=
  Cert.Reference2Ideal.In.summed (m ((c : Thread nD τ).loc main_arg0)) (m ((c : Thread nD τ).loc main_arg1)) (m ((c : Thread nD τ).loc main_arg2))
    (m ((c : Thread nD τ).loc main_arg3)) (m ((c : Thread nD τ).loc main_arg4))

/-- The normalised activation over the arguments. -/
def N (c : Dev nD) : FVec Ideal Cert.Reference2Ideal.S4x8192x1024 .f32 :=
  Cert.Reference2Ideal.In.normed (X m c) (m ((c : Thread nD τ).loc main_arg5)) (m ((c : Thread nD τ).loc main_arg6)) (m ((c : Thread nD τ).loc main_arg7))

/-- The input projection over the arguments. -/
def P (c : Dev nD) : FVec Ideal Cert.Reference2Ideal.S4x8192x4096 .f32 :=
  Cert.Reference2Ideal.In.projected (N m c) (m ((c : Thread nD τ).loc main_arg8))

/-- A block's residual rows are the reference's. -/
theorem sum_rows (c : Dev nD) (t : Fin cfg0.N) (b : Fin 4) (s : Fin 8192) (r : Fin 512) (hb : b.val = t.val / 16)
    (hs : s.val = t.val % 16 * 512 + r.val) (k : Fin 1024) :
    k0_pay2 (F := Ideal) (iblk m c 0 t) (iblk m c 1 t) (iblk m c 2 t) (iblk m c 3 t) (iblk m c 4 t) (ix2 r k) = X m c (ix3 b s k) := by
  refine (summed_at _ _ _ _ _ r k).trans (Eq.trans ?_ (Cert.Reference2Ideal.In.summed_rows _ _ _ _ _ b s k).symm)
  have e0 : ∀ j : Fin 1024, (iblk m c 0 t : Vec Ideal S1x512x1024 .bf16) (ix3 0 r j) = m ((c : Thread nD τ).loc main_arg0) (ix3 b s j) := by
    intro j; blk_point [iblk, V, idx_val t]
  have e1 : ∀ j : Fin 1024, (iblk m c 1 t : Vec Ideal S1x512x1024 .bf16) (ix3 0 r j) = m ((c : Thread nD τ).loc main_arg1) (ix3 b s j) := by
    intro j; blk_point [iblk, V, idx_val t]
  have e3 : ∀ j : Fin 1024, (iblk m c 3 t : Vec Ideal S1x512x1024 .f32) (ix3 0 r j) = m ((c : Thread nD τ).loc main_arg3) (ix3 b s j) := by
    intro j; blk_point [iblk, V, idx_val t]
  have e4 : ∀ j : Fin 1024, (iblk m c 4 t : Vec Ideal S1x1x1024 .f32) (ix3 0 0 j) = m ((c : Thread nD τ).loc main_arg4) (ix2 b j) := by
    intro j; blk_point [iblk, V, idx_val t]
  simp only [e0, e1, e3, e4, read2]

/-- A block's normalised rows are the reference's. -/
theorem rows (c : Dev nD) (t : Fin cfg0.N) (b : Fin 4) (s : Fin 8192) (r : Fin 512) (hb : b.val = t.val / 16)
    (hs : s.val = t.val % 16 * 512 + r.val) (k : Fin 1024) :
    k0_pay6 (F := Ideal) (k0_pay4 (iblk m c 0 t) (iblk m c 1 t) (iblk m c 2 t) (iblk m c 3 t) (iblk m c 4 t)) (k0_pay5 (iblk m c 7 t)) (iblk m c 6 t) (iblk m c 5 t) (ix2 r k)
      = N m c (ix3 b s k) := by
  refine (normed_at _ _ _ _ _ _ _ _ r k).trans (Eq.trans ?_ (Cert.Reference2Ideal.In.normed_at _ _ _ _ b s k).symm)
  have e1 : ∀ j : Fin 1024, (iblk m c 7 t : Vec Ideal S1x1024 .f32) (ix2 0 j) = m ((c : Thread nD τ).loc main_arg7) (ix1 j) := by
    intro j; blk_point [iblk, V, idx_val t]
  have e2 : ∀ j : Fin 1024, (iblk m c 6 t : Vec Ideal S1x1x1024 .f32) (ix3 0 0 j) = m ((c : Thread nD τ).loc main_arg6) (ix2 b j) := by
    intro j; blk_point [iblk, V, idx_val t]
  have e3 : ∀ j : Fin 1024, (iblk m c 5 t : Vec Ideal S1x1x1024 .f32) (ix3 0 0 j) = m ((c : Thread nD τ).loc main_arg5) (ix2 b j) := by
    intro j; blk_point [iblk, V, idx_val t]
  exact Cert.norm_congr (sum_rows m c t b s r hb hs) e1 e2 e3 k

/-- A column of the projection over a block's rows. -/
theorem proj_core (H : Vec Ideal S512x1024 .bf16) (W : Vec Ideal S1024x512 .bf16) (n : FVec Ideal Cert.Reference2Ideal.S4x8192x1024 .f32)
    (w : FVec Ideal Cert.Reference2Ideal.S1024x4096 .f32) (r d : Fin 512) (b : Fin 4) (s : Fin 8192) (e : Fin 4096)
    (hH : ∀ k, H (ix2 r k) = n (ix3 b s k)) (hW : ∀ k : Fin 1024, W (ix2 k d) = w (ix2 k e)) :
    ∑ k : Fin 1024, H (ix2 r k) * W (ix2 k d) = Cert.Reference2Ideal.In.projected n w (ix3 b s e) := by
  rw [Cert.Reference2Ideal.In.projected_at]
  simp only [hH, hW]

end Cert.Kernel2Ideal.In

end
-- ==== Proof.InCore.lean ====
module

public import proofs.«01_k».proof.Proof.InRows

@[expose] public section

set_option maxRecDepth 16384

noncomputable section

namespace Cert.Kernel2Ideal.In

open Cert.Kernel2Ideal Cert.Kernel2Ideal.Gen Idealize.ShloMosaic Idealize.ShloMosaic.TcCoe Idealize.SL.Sem
open Idealize.ShloMosaic.Pipeline (Dat)
open Cert.Reference2Ideal.In (scale scale_add)
open scoped BigOperators

theorem cosines_at_lo (s : Fin 8192) (e : Fin 2) (j : Fin 32) :
    cosines (ix2 s ⟨e.val * 32 + j.val, by omega⟩) = Ideal.cos (angle (ix2 s j)) := by
  refine Eq.trans (congrArg (fun z => cosines (ix2 s z)) (Fin.ext ?_)) (cosines_at s 0 e j)
  simp only [Fin.val_zero]; omega

theorem cosines_at_hi (s : Fin 8192) (e : Fin 2) (j : Fin 32) :
    cosines (ix2 s ⟨64 + (e.val * 32 + j.val), by omega⟩) = Ideal.cos (angle (ix2 s j)) := by
  refine Eq.trans (congrArg (fun z => cosines (ix2 s z)) (Fin.ext ?_)) (cosines_at s 1 e j)
  simp only [Fin.val_one]; omega

/-- Four heads of rotated keys. -/
theorem keys_core (S : FVec Ideal S512x512 .f32) (C V : FVec Ideal S512x128 .f32) (p : FVec Ideal Cert.Reference2Ideal.S4x8192x4096 .f32)
    (u : Fin 1) (r d : Fin 512) (b : Fin 4) (s : Fin 8192) (o : Fin 2) (k : Fin 1024) (hk : k.val = o.val * 512 + d.val)
    (hS : ∀ (a : Fin 512) (x : Fin 4096), x.val = colOf (1024 + o.val * 512 + a.val) → S (ix2 r a) = p (ix3 b s x))
    (hC : ∀ a, C (ix2 r a) = cosines (ix2 s a)) (hV : ∀ a, V (ix2 r a) = sines (ix2 s a)) :
    ropes S C V (ix3 u r d) = Cert.Reference2Ideal.In.keys p (ix3 b s k) := by
  obtain ⟨q, v, e, j, hd⟩ : ∃ (q : Fin 4) (v e : Fin 2) (j : Fin 32), d.val = q.val * 128 + v.val * 64 + e.val * 32 + j.val :=
    ⟨⟨d.val / 128, by omega⟩, ⟨d.val % 128 / 64, by omega⟩, ⟨d.val % 64 / 32, by omega⟩, ⟨d.val % 32, by omega⟩, by dsimp only; omega⟩
  have hx := hS ⟨q.val * 128 + (e.val * 32 + j.val), by omega⟩ ⟨1024 + (o.val * 4 + q.val) * 128 + e.val * 64 + j.val, by omega⟩
    (by unfold colOf; rw [if_pos (by dsimp only; omega)]; dsimp only; omega)
  have hy := hS ⟨q.val * 128 + 64 + (e.val * 32 + j.val), by omega⟩ ⟨1024 + (o.val * 4 + q.val) * 128 + e.val * 64 + 32 + j.val, by omega⟩
    (by unfold colOf; rw [if_pos (by dsimp only; omega)]; dsimp only; omega)
  have hv : v = 0 ∨ v = 1 := by omega
  rcases hv with rfl | rfl
  · have ed : d = ⟨q.val * 128 + (⟨e.val * 32 + j.val, by omega⟩ : Fin 64).val, by dsimp only; omega⟩ := Fin.ext (by simp only [Fin.val_zero] at hd; dsimp only; omega)
    rw [ed]
    refine (ropes_lo S C V u r q ⟨e.val * 32 + j.val, by omega⟩).trans ?_
    refine Eq.trans ?_ (Cert.Reference2Ideal.In.keys_lo p b s ⟨o.val * 4 + q.val, by omega⟩ e j k ⟨1024 + (o.val * 4 + q.val) * 128 + e.val * 64 + j.val, by omega⟩
      ⟨1024 + (o.val * 4 + q.val) * 128 + e.val * 64 + 32 + j.val, by omega⟩ (by simp only [Fin.val_zero] at hd; dsimp only; omega) rfl rfl).symm
    rw [hC, hV, cosines_at_lo, sines_lo, angle_eq, mul_neg, sub_eq_add_neg]
    exact congrArg₂ (fun x y => x * _ + -(y * _)) hx hy
  · have ed : d = ⟨q.val * 128 + 64 + (⟨e.val * 32 + j.val, by omega⟩ : Fin 64).val, by dsimp only; omega⟩ := Fin.ext (by simp only [Fin.val_one] at hd; dsimp only; omega)
    rw [ed]
    refine (ropes_hi S C V u r q ⟨e.val * 32 + j.val, by omega⟩).trans ?_
    refine Eq.trans ?_ (Cert.Reference2Ideal.In.keys_hi p b s ⟨o.val * 4 + q.val, by omega⟩ e j k ⟨1024 + (o.val * 4 + q.val) * 128 + e.val * 64 + j.val, by omega⟩
      ⟨1024 + (o.val * 4 + q.val) * 128 + e.val * 64 + 32 + j.val, by omega⟩ (by simp only [Fin.val_one] at hd; dsimp only; omega) rfl rfl).symm
    rw [hC, hV, cosines_at_hi, sines_hi, angle_eq]
    exact congrArg₂ (fun x y => y * _ + x * _) hx hy

/-- Four heads of rotated, scaled queries. -/
theorem queries_core (S : FVec Ideal S512x512 .f32) (C V : FVec Ideal S512x128 .f32) (p : FVec Ideal Cert.Reference2Ideal.S4x8192x4096 .f32)
    (u : Fin 1) (r d : Fin 512) (b : Fin 4) (s : Fin 8192) (o : Fin 2) (k : Fin 1024) (hk : k.val = o.val * 512 + d.val)
    (hS : ∀ (a : Fin 512) (x : Fin 4096), x.val = colOf (o.val * 512 + a.val) → S (ix2 r a) = p (ix3 b s x))
    (hC : ∀ a, C (ix2 r a) = cosines (ix2 s a) * scale) (hV : ∀ a, V (ix2 r a) = sines (ix2 s a) * scale) :
    ropes S C V (ix3 u r d) = Cert.Reference2Ideal.In.queries p (ix3 b s k) := by
  obtain ⟨q, v, e, j, hd⟩ : ∃ (q : Fin 4) (v e : Fin 2) (j : Fin 32), d.val = q.val * 128 + v.val * 64 + e.val * 32 + j.val :=
    ⟨⟨d.val / 128, by omega⟩, ⟨d.val % 128 / 64, by omega⟩, ⟨d.val % 64 / 32, by omega⟩, ⟨d.val % 32, by omega⟩, by dsimp only; omega⟩
  have hx := hS ⟨q.val * 128 + (e.val * 32 + j.val), by omega⟩ ⟨(o.val * 4 + q.val) * 128 + e.val * 64 + j.val, by omega⟩
    (by unfold colOf; rw [if_pos (by dsimp only; omega)]; dsimp only; omega)
  have hy := hS ⟨q.val * 128 + 64 + (e.val * 32 + j.val), by omega⟩ ⟨(o.val * 4 + q.val) * 128 + e.val * 64 + 32 + j.val, by omega⟩
    (by unfold colOf; rw [if_pos (by dsimp only; omega)]; dsimp only; omega)
  have hv : v = 0 ∨ v = 1 := by omega
  rcases hv with rfl | rfl
  · have ed : d = ⟨q.val * 128 + (⟨e.val * 32 + j.val, by omega⟩ : Fin 64).val, by dsimp only; omega⟩ := Fin.ext (by simp only [Fin.val_zero] at hd; dsimp only; omega)
    rw [ed]
    refine (ropes_lo S C V u r q ⟨e.val * 32 + j.val, by omega⟩).trans ?_
    refine Eq.trans ?_ (Cert.Reference2Ideal.In.queries_lo p b s ⟨o.val * 4 + q.val, by omega⟩ e j k ⟨(o.val * 4 + q.val) * 128 + e.val * 64 + j.val, by omega⟩
      ⟨(o.val * 4 + q.val) * 128 + e.val * 64 + 32 + j.val, by omega⟩ (by simp only [Fin.val_zero] at hd; dsimp only; omega) rfl rfl).symm
    rw [hC, hV, cosines_at_lo, sines_lo, angle_eq, ← mul_assoc, ← mul_assoc, ← scale_add, mul_neg, sub_eq_add_neg]
    exact congrArg₂ (fun x y => (x * _ + -(y * _)) * scale) hx hy
  · have ed : d = ⟨q.val * 128 + 64 + (⟨e.val * 32 + j.val, by omega⟩ : Fin 64).val, by dsimp only; omega⟩ := Fin.ext (by simp only [Fin.val_one] at hd; dsimp only; omega)
    rw [ed]
    refine (ropes_hi S C V u r q ⟨e.val * 32 + j.val, by omega⟩).trans ?_
    refine Eq.trans ?_ (Cert.Reference2Ideal.In.queries_hi p b s ⟨o.val * 4 + q.val, by omega⟩ e j k ⟨(o.val * 4 + q.val) * 128 + e.val * 64 + j.val, by omega⟩
      ⟨(o.val * 4 + q.val) * 128 + e.val * 64 + 32 + j.val, by omega⟩ (by simp only [Fin.val_one] at hd; dsimp only; omega) rfl rfl).symm
    rw [hC, hV, cosines_at_hi, sines_hi, angle_eq, ← mul_assoc, ← mul_assoc, ← scale_add]
    exact congrArg₂ (fun x y => (y * _ + x * _) * scale) hx hy

end Cert.Kernel2Ideal.In

end
-- ==== Proof.InFin.lean ====
module

public import proofs.«01_k».proof.Proof.InCore

@[expose] public section

set_option maxRecDepth 16384

noncomputable section

namespace Cert.Kernel2Ideal.In

open Cert.Kernel2Ideal Cert.Kernel2Ideal.Gen Idealize.ShloMosaic Idealize.ShloMosaic.TcCoe Idealize.SL.Sem
open Idealize.ShloMosaic.Pipeline (Dat)
open Cert.Reference2Ideal.In (scale)
open scoped BigOperators

variable (m : (ℓ : Loc nD τ sig) → Buf (Elt Ideal) ℓ)

/-- The index of a block's element in the array. -/
theorem place (t : Fin cfg0.N) : ∃ b : Fin 4, b.val = t.val / 16 ∧ ∀ r : Fin 512, ∃ s : Fin 8192, s.val = t.val % 16 * 512 + r.val := by
  have h : t.val < 64 := lt_of_lt_of_eq t.isLt N_0
  exact ⟨⟨t.val / 16, by omega⟩, rfl, fun r => ⟨⟨t.val % 16 * 512 + r.val, by omega⟩, rfl⟩⟩

/-- A stored column of the input projection, read at the column it is. -/
theorem read_col (c : Dev nD) (t : Fin cfg0.N) (k : Fin 1024) (j x : Fin 4096) (hx : x.val = colOf j.val) :
    (iblk m c 8 t : Vec Ideal S1024x4096 .bf16) (ix2 k j) = m ((c : Thread nD τ).loc main_arg8) (ix2 k x) := by
  rw [read8]
  exact congrArg (fun z => m ((c : Thread nD τ).loc main_arg8) (ix2 k z)) (Fin.ext hx.symm)

theorem emb13 (t : Fin cfg0.N) (y : S1x512x1024.Idx) (b : Fin 4) (s : Fin 8192) (e : Fin 1024) (hb : b.val = t.val / 16)
    (hs : s.val = t.val % 16 * 512 + (y 1).val) (he : e.val = (y 2).val) : ((cfg0.win 13).blk t).view.emb y = ix3 b s e := by
  blk_ext [idx_val t]

theorem emb14 (t : Fin cfg0.N) (y : S1x512x1024.Idx) (b : Fin 4) (s : Fin 8192) (e : Fin 1024) (hb : b.val = t.val / 16)
    (hs : s.val = t.val % 16 * 512 + (y 1).val) (he : e.val = (y 2).val) : ((cfg0.win 14).blk t).view.emb y = ix3 b s e := by
  blk_ext [idx_val t]

theorem emb15 (t : Fin cfg0.N) (y : S1x512x1024.Idx) (b : Fin 4) (s : Fin 8192) (e : Fin 1024) (hb : b.val = t.val / 16)
    (hs : s.val = t.val % 16 * 512 + (y 1).val) (he : e.val = (y 2).val) : ((cfg0.win 15).blk t).view.emb y = ix3 b s e := by
  blk_ext [idx_val t]

theorem emb16 (t : Fin cfg0.N) (y : S1x512x1024.Idx) (b : Fin 4) (s : Fin 8192) (e : Fin 1024) (hb : b.val = t.val / 16)
    (hs : s.val = t.val % 16 * 512 + (y 1).val) (he : e.val = (y 2).val) : ((cfg0.win 16).blk t).view.emb y = ix3 b s e := by
  blk_ext [idx_val t]

theorem emb17 (t : Fin cfg0.N) (y : S1x512x1024.Idx) (b : Fin 4) (s : Fin 8192) (e : Fin 1024) (hb : b.val = t.val / 16)
    (hs : s.val = t.val % 16 * 512 + (y 1).val) (he : e.val = (y 2).val) : ((cfg0.win 17).blk t).view.emb y = ix3 b s e := by
  blk_ext [idx_val t]

theorem final_13 (c : Dev nD) : (dats m 0 c).arrAt 13 (cfgs 0).N = X m c := by
  refine (dats m 0 c).arrAt_eq_of_covers 13 _ (by decide +kernel) fun t hf y => ?_
  blk_simp; rw [after0_13]
  unfold Gen.outsAt0; frame_out
  obtain ⟨b, hb, hp⟩ := place t
  obtain ⟨u, r, k, rfl⟩ : ∃ (u : Fin 1) (r : Fin 512) (k : Fin 1024), y = (ix3 u r k : S1x512x1024.Idx) := ⟨y 0, y 1, y 2, by blk_ext⟩
  obtain ⟨s, hs⟩ := hp r
  exact (stored_at _ _ _ _ _ u r k).trans ((sum_rows m c t b s r hb hs k).trans (congrArg (X m c) (emb13 t _ b s k hb hs rfl).symm))

theorem final_14 (c : Dev nD) : (dats m 0 c).arrAt 14 (cfgs 0).N = Cert.Reference2Ideal.In.queries (P m c) := by
  refine (dats m 0 c).arrAt_eq_of_covers 14 _ (by decide +kernel) fun t hf y => ?_
  blk_simp; rw [after0_14]
  unfold Gen.outsAt0; frame_out
  obtain ⟨b, hb, hp⟩ := place t
  canon_tiles x h
  all_goals
    obtain ⟨u, r, d, rfl⟩ : ∃ (u : Fin 1) (r d : Fin 512), x = ix3 u r d := ⟨x 0, x 1, x 2, by blk_ext⟩
    obtain ⟨s, hs⟩ := hp r
  · refine Eq.trans ?_ (congrArg _ (emb14 t y b s ⟨512 + d.val, by omega⟩ hb (hs.trans (by rw [h1]; rfl)) h2.symm).symm)
    rw [ropes_14]
    refine queries_core _ _ _ (P m c) u r d b s 1 ⟨512 + d.val, by omega⟩ (by simp) (fun a x hx => (proj_at _ _ r a).trans (proj_core _ _ (N m c) (m ((c : Thread nD τ).loc main_arg8)) r a b s x (rows m c t b s r hb hs) ?_)) ?_ ?_
    · intro k
      refine Eq.trans (b := (iblk m c 8 t : Vec Ideal S1024x4096 .bf16) (ix2 k ⟨512 + a.val, by omega⟩)) ?_ (read_col m c t k _ x (by rw [hx]; simp))
      generalize (iblk m c 8 t : Vec Ideal S1024x4096 .bf16) = B
      pointwise []
    · intro a; refine (pay8_at _ r a).trans ?_; refine Eq.trans (b := (iblk m c 11 t : Vec Ideal S512x128 .f32) (ix2 r a)) ?_ (read11 m c t r s a hs)
      blk_point [idx_val t]
    · intro a; refine (pay9_at _ r a).trans ?_; refine Eq.trans (b := (iblk m c 12 t : Vec Ideal S512x128 .f32) (ix2 r a)) ?_ (read12 m c t r s a hs)
      blk_point [idx_val t]
  · refine Eq.trans ?_ (congrArg _ (emb14 t y b s ⟨d.val, by omega⟩ hb (hs.trans (by rw [h1]; rfl)) h2.symm).symm)
    rw [ropes_13]
    refine queries_core _ _ _ (P m c) u r d b s 0 ⟨d.val, by omega⟩ (by simp) (fun a x hx => (proj_at _ _ r a).trans (proj_core _ _ (N m c) (m ((c : Thread nD τ).loc main_arg8)) r a b s x (rows m c t b s r hb hs) ?_)) ?_ ?_
    · intro k
      refine Eq.trans (b := (iblk m c 8 t : Vec Ideal S1024x4096 .bf16) (ix2 k ⟨0 + a.val, by omega⟩)) ?_ (read_col m c t k _ x (by rw [hx]; simp))
      generalize (iblk m c 8 t : Vec Ideal S1024x4096 .bf16) = B
      pointwise []
    · intro a; refine (pay8_at _ r a).trans ?_; refine Eq.trans (b := (iblk m c 11 t : Vec Ideal S512x128 .f32) (ix2 r a)) ?_ (read11 m c t r s a hs)
      blk_point [idx_val t]
    · intro a; refine (pay9_at _ r a).trans ?_; refine Eq.trans (b := (iblk m c 12 t : Vec Ideal S512x128 .f32) (ix2 r a)) ?_ (read12 m c t r s a hs)
      blk_point [idx_val t]

theorem final_15 (c : Dev nD) : (dats m 0 c).arrAt 15 (cfgs 0).N = Cert.Reference2Ideal.In.keys (P m c) := by
  refine (dats m 0 c).arrAt_eq_of_covers 15 _ (by decide +kernel) fun t hf y => ?_
  blk_simp; rw [after0_15]
  unfold Gen.outsAt0; frame_out
  obtain ⟨b, hb, hp⟩ := place t
  canon_tiles x h
  all_goals
    obtain ⟨u, r, d, rfl⟩ : ∃ (u : Fin 1) (r d : Fin 512), x = ix3 u r d := ⟨x 0, x 1, x 2, by blk_ext⟩
    obtain ⟨s, hs⟩ := hp r
  · refine Eq.trans ?_ (congrArg _ (emb15 t y b s ⟨512 + d.val, by omega⟩ hb (hs.trans (by rw [h1]; rfl)) h2.symm).symm)
    rw [ropes_17]
    refine keys_core _ _ _ (P m c) u r d b s 1 ⟨512 + d.val, by omega⟩ (by simp) (fun a x hx => (proj_at _ _ r a).trans (proj_core _ _ (N m c) (m ((c : Thread nD τ).loc main_arg8)) r a b s x (rows m c t b s r hb hs) ?_)) ?_ ?_
    · intro k
      refine Eq.trans (b := (iblk m c 8 t : Vec Ideal S1024x4096 .bf16) (ix2 k ⟨1536 + a.val, by omega⟩)) ?_ (read_col m c t k _ x (by rw [hx]; simp))
      generalize (iblk m c 8 t : Vec Ideal S1024x4096 .bf16) = B
      pointwise []
    · intro a; refine (pay8_at _ r a).trans ?_; refine Eq.trans (b := (iblk m c 9 t : Vec Ideal S512x128 .f32) (ix2 r a)) ?_ (read9 m c t r s a hs)
      blk_point [idx_val t]
    · intro a; refine (pay9_at _ r a).trans ?_; refine Eq.trans (b := (iblk m c 10 t : Vec Ideal S512x128 .f32) (ix2 r a)) ?_ (read10 m c t r s a hs)
      blk_point [idx_val t]
  · refine Eq.trans ?_ (congrArg _ (emb15 t y b s ⟨d.val, by omega⟩ hb (hs.trans (by rw [h1]; rfl)) h2.symm).symm)
    rw [ropes_16]
    refine keys_core _ _ _ (P m c) u r d b s 0 ⟨d.val, by omega⟩ (by simp) (fun a x hx => (proj_at _ _ r a).trans (proj_core _ _ (N m c) (m ((c : Thread nD τ).loc main_arg8)) r a b s x (rows m c t b s r hb hs) ?_)) ?_ ?_
    · intro k
      refine Eq.trans (b := (iblk m c 8 t : Vec Ideal S1024x4096 .bf16) (ix2 k ⟨1024 + a.val, by omega⟩)) ?_ (read_col m c t k _ x (by rw [hx]; simp))
      generalize (iblk m c 8 t : Vec Ideal S1024x4096 .bf16) = B
      pointwise []
    · intro a; refine (pay8_at _ r a).trans ?_; refine Eq.trans (b := (iblk m c 9 t : Vec Ideal S512x128 .f32) (ix2 r a)) ?_ (read9 m c t r s a hs)
      blk_point [idx_val t]
    · intro a; refine (pay9_at _ r a).trans ?_; refine Eq.trans (b := (iblk m c 10 t : Vec Ideal S512x128 .f32) (ix2 r a)) ?_ (read10 m c t r s a hs)
      blk_point [idx_val t]

theorem final_16 (c : Dev nD) : (dats m 0 c).arrAt 16 (cfgs 0).N = Cert.Reference2Ideal.In.values (P m c) := by
  refine (dats m 0 c).arrAt_eq_of_covers 16 _ (by decide +kernel) fun t hf y => ?_
  blk_simp; rw [after0_16]
  unfold Gen.outsAt0; frame_out
  obtain ⟨b, hb, hp⟩ := place t
  canon_tiles x h
  all_goals
    obtain ⟨u, r, d, rfl⟩ : ∃ (u : Fin 1) (r d : Fin 512), x = ix3 u r d := ⟨x 0, x 1, x 2, by blk_ext⟩
    obtain ⟨s, hs⟩ := hp r
  · refine Eq.trans ?_ (congrArg _ (emb16 t y b s ⟨512 + d.val, by omega⟩ hb (hs.trans (by rw [h1]; rfl)) h2.symm).symm)
    refine (plain_20 _ _ u r d).trans (Eq.trans ?_ (Cert.Reference2Ideal.In.values_at _ b s _).symm)
    refine (proj_core _ _ (N m c) (m ((c : Thread nD τ).loc main_arg8)) r d b s _ (rows m c t b s r hb hs) ?_)
    intro k
    refine Eq.trans (b := (iblk m c 8 t : Vec Ideal S1024x4096 .bf16) (ix2 k ⟨2560 + d.val, by omega⟩)) ?_ (read_col m c t k _ _ (by unfold colOf; rw [if_neg (by dsimp only; omega)]; dsimp only; omega))
    generalize (iblk m c 8 t : Vec Ideal S1024x4096 .bf16) = B
    pointwise []
  · refine Eq.trans ?_ (congrArg _ (emb16 t y b s ⟨d.val, by omega⟩ hb (hs.trans (by rw [h1]; rfl)) h2.symm).symm)
    refine (plain_18 _ _ u r d).trans (Eq.trans ?_ (Cert.Reference2Ideal.In.values_at _ b s _).symm)
    refine (proj_core _ _ (N m c) (m ((c : Thread nD τ).loc main_arg8)) r d b s _ (rows m c t b s r hb hs) ?_)
    intro k
    refine Eq.trans (b := (iblk m c 8 t : Vec Ideal S1024x4096 .bf16) (ix2 k ⟨2048 + d.val, by omega⟩)) ?_ (read_col m c t k _ _ (by unfold colOf; rw [if_neg (by dsimp only; omega)]))
    generalize (iblk m c 8 t : Vec Ideal S1024x4096 .bf16) = B
    pointwise []

theorem final_17 (c : Dev nD) : (dats m 0 c).arrAt 17 (cfgs 0).N = Cert.Reference2Ideal.In.gates (P m c) := by
  refine (dats m 0 c).arrAt_eq_of_covers 17 _ (by decide +kernel) fun t hf y => ?_
  blk_simp; rw [after0_17]
  unfold Gen.outsAt0; frame_out
  obtain ⟨b, hb, hp⟩ := place t
  canon_tiles x h
  all_goals
    obtain ⟨u, r, d, rfl⟩ : ∃ (u : Fin 1) (r d : Fin 512), x = ix3 u r d := ⟨x 0, x 1, x 2, by blk_ext⟩
    obtain ⟨s, hs⟩ := hp r
  · refine Eq.trans ?_ (congrArg _ (emb17 t y b s ⟨512 + d.val, by omega⟩ hb (hs.trans (by rw [h1]; rfl)) h2.symm).symm)
    refine (gate_22 _ _ u r d).trans (Eq.trans ?_ (Cert.Reference2Ideal.In.gates_at _ b s _).symm)
    refine congrArg Cert.silu (proj_core _ _ (N m c) (m ((c : Thread nD τ).loc main_arg8)) r d b s _ (rows m c t b s r hb hs) ?_)
    intro k
    refine Eq.trans (b := (iblk m c 8 t : Vec Ideal S1024x4096 .bf16) (ix2 k ⟨3584 + d.val, by omega⟩)) ?_ (read_col m c t k _ _ (by unfold colOf; rw [if_neg (by dsimp only; omega)]; dsimp only; omega))
    generalize (iblk m c 8 t : Vec Ideal S1024x4096 .bf16) = B
    pointwise []
  · refine Eq.trans ?_ (congrArg _ (emb17 t y b s ⟨d.val, by omega⟩ hb (hs.trans (by rw [h1]; rfl)) h2.symm).symm)
    refine (gate_21 _ _ u r d).trans (Eq.trans ?_ (Cert.Reference2Ideal.In.gates_at _ b s _).symm)
    refine congrArg Cert.silu (proj_core _ _ (N m c) (m ((c : Thread nD τ).loc main_arg8)) r d b s _ (rows m c t b s r hb hs) ?_)
    intro k
    refine Eq.trans (b := (iblk m c 8 t : Vec Ideal S1024x4096 .bf16) (ix2 k ⟨3072 + d.val, by omega⟩)) ?_ (read_col m c t k _ _ (by unfold colOf; rw [if_neg (by dsimp only; omega)]))
    generalize (iblk m c 8 t : Vec Ideal S1024x4096 .bf16) = B
    pointwise []

end Cert.Kernel2Ideal.In

end
-- ==== Proof.Last.lean ====
module

public import proofs.«01_k».proof.Proof.Norm
public import proofs.«01_k».proof.Proof.Gen.Reference4Ideal.Run
public import proofs.«01_k».proof.Proof.Gen.Kernel4Ideal.Value
public import Idealize.ShloMosaic.Lib.Pipeline.ValueKit

@[expose] public section

set_option maxRecDepth 16384

noncomputable section

namespace Cert.Reference4Ideal.Last

open Cert.Reference4Ideal Cert.Reference4Ideal.Gen Cert.Reference4Ideal.Value Idealize.ShloMosaic Idealize.ShloMosaic.TcCoe
open scoped BigOperators

/-- The residual sum. -/
def summed (a0 a1 : FVec Ideal S4x8192x1024 .bf16) (a2 : FVec Ideal S1024x1024 .f32) (a3 : FVec Ideal S4x8192x1024 .f32) (a4 : FVec Ideal S4x1024 .f32) : FVec Ideal S4x8192x1024 .f32 :=
  addf a3 (mulf (broadcastInDim S4x8192x1024 ![0, 1, 2] bcast_S4x1x1024_S4x8192x1024_0_1_2 (broadcastInDim S4x1x1024 ![0, 2] bcast_S4x1024_S4x1x1024_0_2 a4)) (Host.dotGeneral dot_S4x8192x1024_S1024x1024_S4x8192x1024_2_0_01_1_n_n none (mulf (extf .f32 a0 bitsLt_bf16_f32) (extf .f32 a1 bitsLt_bf16_f32)) a2))

/-- The final norm. -/
def rooted (x : FVec Ideal S4x8192x1024 .f32) (a5 : FVec Ideal S1024 .f32) : FVec Ideal S4x8192x1024 .f32 :=
  mulf (mulf x (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf x x) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a5))

theorem summed_at (a0 a1 : FVec Ideal S4x8192x1024 .bf16) (a2 : FVec Ideal S1024x1024 .f32) (a3 : FVec Ideal S4x8192x1024 .f32) (a4 : FVec Ideal S4x1024 .f32)
    (b : Fin 4) (s : Fin 8192) (k : Fin 1024) :
    summed a0 a1 a2 a3 a4 (ix3 b s k) = a3 (ix3 b s k) + a4 (ix2 b k) * ∑ j : Fin 1024, a0 (ix3 b s j) * a1 (ix3 b s j) * a2 (ix2 j k) := by
  pointwise [summed]

theorem rooted_at (x : FVec Ideal S4x8192x1024 .f32) (a5 : FVec Ideal S1024 .f32) (b : Fin 4) (s : Fin 8192) (k : Fin 1024) :
    rooted x a5 (ix3 b s k) = Cert.rms (fun j => x (ix3 b s j)) (fun j => a5 (ix1 j)) k := by
  pointwise [rooted, Cert.rms]

end Cert.Reference4Ideal.Last

namespace Cert.Kernel4Ideal.Last

open Cert.Kernel4Ideal Cert.Kernel4Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

theorem idx_val : ∀ t : Fin cfg0.N, win0_0.index t = ![t.val / 16, t.val % 16, 0]
    ∧ win0_1.index t = ![t.val / 16, t.val % 16, 0]
    ∧ win0_2.index t = ![0, 0]
    ∧ win0_3.index t = ![t.val / 16, t.val % 16, 0]
    ∧ win0_4.index t = ![t.val / 16, 0, 0]
    ∧ win0_5.index t = ![0, 0]
    ∧ win0_6.index t = ![t.val / 16, t.val % 16, 0] :=
  (by decide +kernel : ∀ t : Fin grid0.N, _)

/-- One row of the residual sum over a block. -/
def row (o z : Vec Ideal S1x512x1024 .bf16) (w : Vec Ideal S1024x1024 .bf16) (x : Vec Ideal S1x512x1024 .f32) (g : Vec Ideal S1x1x1024 .f32)
    (r : Fin 512) (k : Fin 1024) : EReal :=
  x (ix3 0 r k) + g (ix3 0 0 k) * ∑ j : Fin 1024, o (ix3 0 r j) * z (ix3 0 r j) * w (ix2 j k)

theorem pay_at (o z : Vec Ideal S1x512x1024 .bf16) (w : Vec Ideal S1024x1024 .bf16) (x : Vec Ideal S1x512x1024 .f32) (g : Vec Ideal S1x1x1024 .f32)
    (f : Vec Ideal S1x1024 .f32) (u : Fin 1) (r : Fin 512) (k : Fin 1024) :
    k0_pay1 (F := Ideal) o z w x g f (ix3 u r k) = Cert.rms (row o z w x g r) (fun j => f (ix2 0 j)) k := by
  pointwise [k0_pay1, Cert.rms, row]

/-- The result over the arguments. -/
def result (c : Dev nD) : FVec Ideal Cert.Reference4Ideal.S4x8192x1024 .f32 :=
  Cert.Reference4Ideal.Last.rooted (Cert.Reference4Ideal.Last.summed (m ((c : Thread nD τ).loc main_arg0)) (m ((c : Thread nD τ).loc main_arg1))
    (m ((c : Thread nD τ).loc main_arg2)) (m ((c : Thread nD τ).loc main_arg3)) (m ((c : Thread nD τ).loc main_arg4))) (m ((c : Thread nD τ).loc main_arg5))

theorem point (c : Dev nD) (t : Fin cfg0.N) (u : Fin 1) (r : Fin 512) (k : Fin 1024) (b : Fin 4) (s : Fin 8192) (hb : b.val = t.val / 16)
    (hs : s.val = t.val % 16 * 512 + r.val) :
    k0_pay1 (F := Ideal) (iblk m c 0 t) (iblk m c 1 t) (iblk m c 2 t) (iblk m c 3 t) (iblk m c 4 t) (iblk m c 5 t) (ix3 u r k) = result m c (ix3 b s k) := by
  refine (pay_at _ _ _ _ _ _ u r k).trans (Eq.trans ?_ (Cert.Reference4Ideal.Last.rooted_at _ _ b s k).symm)
  refine Cert.rms_congr (fun j => ?_) (fun j => ?_) k
  · refine Eq.trans ?_ (Cert.Reference4Ideal.Last.summed_at _ _ _ _ _ b s j).symm
    unfold row
    have e0 : ∀ j : Fin 1024, (iblk m c 0 t : Vec Ideal S1x512x1024 .bf16) (ix3 0 r j) = m ((c : Thread nD τ).loc main_arg0) (ix3 b s j) := by
      intro j; blk_point [iblk, V, idx_val t]
    have e1 : ∀ j : Fin 1024, (iblk m c 1 t : Vec Ideal S1x512x1024 .bf16) (ix3 0 r j) = m ((c : Thread nD τ).loc main_arg1) (ix3 b s j) := by
      intro j; blk_point [iblk, V, idx_val t]
    have e2 : ∀ j k : Fin 1024, (iblk m c 2 t : Vec Ideal S1024x1024 .bf16) (ix2 j k) = m ((c : Thread nD τ).loc main_arg2) (ix2 j k) := by
      intro j k; blk_point [iblk, V, idx_val t]
    have e3 : ∀ j : Fin 1024, (iblk m c 3 t : Vec Ideal S1x512x1024 .f32) (ix3 0 r j) = m ((c : Thread nD τ).loc main_arg3) (ix3 b s j) := by
      intro j; blk_point [iblk, V, idx_val t]
    have e4 : ∀ j : Fin 1024, (iblk m c 4 t : Vec Ideal S1x1x1024 .f32) (ix3 0 0 j) = m ((c : Thread nD τ).loc main_arg4) (ix2 b j) := by
      intro j; blk_point [iblk, V, idx_val t]
    simp only [e0, e1, e2, e3, e4]
  · blk_point [iblk, V, idx_val t]

theorem final_arr (c : Dev nD) : (dats m 0 c).arrAt 6 (cfgs 0).N = result m c := by
  refine (dats m 0 c).arrAt_eq_of_covers 6 _ (by decide +kernel) fun t hf y => ?_
  blk_simp; rw [after0_6]; frame_out
  have h : t.val < 64 := lt_of_lt_of_eq t.isLt N_0
  obtain ⟨u, r, k, rfl⟩ : ∃ (u : Fin 1) (r : Fin 512) (k : Fin 1024), y = (ix3 u r k : S1x512x1024.Idx) := ⟨y 0, y 1, y 2, by blk_ext⟩
  refine (point m c t u r k ⟨t.val / 16, by omega⟩ ⟨t.val % 16 * 512 + r.val, by omega⟩ rfl rfl).trans (congrArg (result m c) ?_)
  blk_ext [idx_val t]

end Cert.Kernel4Ideal.Last

end
-- ==== Proof.Mid.lean ====
module

public import proofs.«01_k».proof.Proof.Norm
public import proofs.«01_k».proof.Proof.Gen.Reference5Ideal.Run
public import proofs.«01_k».proof.Proof.Gen.Kernel5Ideal.Value
public import Idealize.ShloMosaic.Lib.Pipeline.ValueKit
public import Idealize.ShloMosaic.Lib.KernelVsHost

@[expose] public section

set_option maxRecDepth 16384

noncomputable section

namespace Cert.Reference5Ideal.Mid

open Cert.Reference5Ideal Cert.Reference5Ideal.Gen Cert.Reference5Ideal.Value Idealize.ShloMosaic Idealize.ShloMosaic.TcCoe
open scoped BigOperators

/-- The convolution's input with a row of zeros before and after each sequence. -/
def padded (a0 : FVec Ideal S4x8192x1024 .bf16) : FVec Ideal S4x8194x1024 .f32 :=
  pad S4x8194x1024 ![0, 1, 0] ![0, 1, 0] ![0, 0, 0] (extf .f32 a0 bitsLt_bf16_f32) (sitofp .f32 (constantI S_ 32 0#32)) pads_S4x8192x1024_S4x8194x1024_000_110_000 h_S_

/-- The residual sum after the convolution. -/
def summed (a0 a1 : FVec Ideal S4x8192x1024 .bf16) (a2 : FVec Ideal S3x1024 .f32) (a3 : FVec Ideal S1024x1024 .f32) (a4 : FVec Ideal S4x8192x1024 .f32) (a5 : FVec Ideal S4x1024 .f32) : FVec Ideal S4x8192x1024 .f32 :=
  addf a4 (mulf (broadcastInDim S4x8192x1024 ![0, 1, 2] bcast_S4x1x1024_S4x8192x1024_0_1_2 (broadcastInDim S4x1x1024 ![0, 2] bcast_S4x1024_S4x1x1024_0_2 a5)) (Host.dotGeneral dot_S4x8192x1024_S1024x1024_S4x8192x1024_2_0_01_1_n_n none (mulf (extf .f32 a1 bitsLt_bf16_f32) (addf (addf (mulf (extractStridedSlice S4x8192x1024 ![0, 0, 0] (padded a0) slices_S4x8194x1024_S4x8192x1024_0_0_0) (broadcastInDim S4x8192x1024 ![0, 1, 2] bcast_S1x1x1024_S4x8192x1024_0_1_2 (broadcastInDim S1x1x1024 ![2] bcast_S1024_S1x1x1024_2 (shapeCast _ (extractStridedSlice S1x1024 ![0, 0] a2 slices_S3x1024_S1x1024_0_0) shapeCasts_S1x1024_S1024)))) (mulf (extractStridedSlice S4x8192x1024 ![0, 1, 0] (padded a0) slices_S4x8194x1024_S4x8192x1024_0_1_0) (broadcastInDim S4x8192x1024 ![0, 1, 2] bcast_S1x1x1024_S4x8192x1024_0_1_2 (broadcastInDim S1x1x1024 ![2] bcast_S1024_S1x1x1024_2 (shapeCast _ (extractStridedSlice S1x1024 ![1, 0] a2 slices_S3x1024_S1x1024_1_0) shapeCasts_S1x1024_S1024))))) (mulf (extractStridedSlice S4x8192x1024 ![0, 2, 0] (padded a0) slices_S4x8194x1024_S4x8192x1024_0_2_0) (broadcastInDim S4x8192x1024 ![0, 1, 2] bcast_S1x1x1024_S4x8192x1024_0_1_2 (broadcastInDim S1x1x1024 ![2] bcast_S1024_S1x1x1024_2 (shapeCast _ (extractStridedSlice S1x1024 ![2, 0] a2 slices_S3x1024_S1x1024_2_0) shapeCasts_S1x1024_S1024)))))) a3))

/-- Row `p` of a padded sequence. -/
def ext (a0 : FVec Ideal S4x8192x1024 .bf16) (b : Fin 4) (p : ℕ) (k : Fin 1024) : EReal :=
  if h : 1 ≤ p ∧ p ≤ 8192 then a0 (ix3 b ⟨p - 1, by omega⟩ k) else 0

theorem padded_at (a0 : FVec Ideal S4x8192x1024 .bf16) (b : Fin 4) (p : Fin 8194) (k : Fin 1024) :
    padded a0 (ix3 b p k) = ext a0 b p.val k := by
  unfold padded ext
  by_cases h : 1 ≤ p.val ∧ p.val ≤ 8192
  · rw [dif_pos h]
    refine (pad_apply_of_inside _ _ _ _ _ _ _ _ (ix3 b ⟨p.val - 1, by omega⟩ k) ?_).trans ?_
    · intro a
      match a with
      | 0 => show b.val = 0 + b.val * (0 + 1); omega
      | 1 => show p.val = 1 + (p.val - 1) * (0 + 1); omega
      | 2 => show k.val = 0 + k.val * (0 + 1); omega
    · pointwise []
  · rw [dif_neg h]
    refine (pad_apply_of_not_inside _ _ _ _ _ _ _ _ 1 ?_).trans ?_
    · show ¬(1 ≤ p.val ∧ (p.val - 1) % (0 + 1) = 0 ∧ (p.val - 1) / (0 + 1) < 8192)
      omega
    · pointwise []
      show ((((0#32).toInt : ℝ)) : EReal) = 0
      rw [show (0#32).toInt = 0 from by decide]; norm_num

theorem summed_at (a0 a1 : FVec Ideal S4x8192x1024 .bf16) (a2 : FVec Ideal S3x1024 .f32) (a3 : FVec Ideal S1024x1024 .f32) (a4 : FVec Ideal S4x8192x1024 .f32) (a5 : FVec Ideal S4x1024 .f32)
    (b : Fin 4) (s : Fin 8192) (k : Fin 1024) :
    summed a0 a1 a2 a3 a4 a5 (ix3 b s k) = a4 (ix3 b s k) + a5 (ix2 b k) * ∑ j : Fin 1024, a1 (ix3 b s j)
      * (ext a0 b s.val j * a2 (ix2 0 j) + ext a0 b (s.val + 1) j * a2 (ix2 1 j) + ext a0 b (s.val + 2) j * a2 (ix2 2 j)) * a3 (ix2 j k) := by
  have e : ∀ (q : ℕ) (hq : q + s.val < 8194) (j : Fin 1024), ext a0 b (s.val + q) j = padded a0 (ix3 b ⟨q + s.val, hq⟩ j) :=
    fun q hq j => (congrArg (fun p => ext a0 b p j) (Nat.add_comm _ _)).trans (padded_at a0 b ⟨q + s.val, hq⟩ j).symm
  have e0 : ∀ j : Fin 1024, ext a0 b s.val j = padded a0 (ix3 b ⟨s.val, by omega⟩ j) :=
    fun j => (padded_at a0 b ⟨s.val, by omega⟩ j).symm
  simp only [e0, e 1 (by omega), e 2 (by omega)]
  unfold summed
  generalize padded a0 = p
  pointwise []

end Cert.Reference5Ideal.Mid

namespace Cert.Kernel5Ideal.Mid

open Cert.Kernel5Ideal Cert.Kernel5Ideal.Gen Idealize.ShloMosaic Idealize.ShloMosaic.TcCoe Idealize.SL.Sem
open Idealize.ShloMosaic.Pipeline (Dat)
open scoped BigOperators
open Cert.Reference5Ideal.Mid (ext)

/-- The window of rows that a point gathers: the end of the tile before, the tile, the start of the tile after. -/
def pieces (i : grid0.Coords) (A : Vec Ideal S1x16x1024 .bf16) (B : Vec Ideal S1x512x1024 .bf16) (C : Vec Ideal S1x16x1024 .bf16) : List (View.Piece (Elt Ideal) S544x1024 .f32) :=
  [⟨Rect.unit ![528, 0] ![16, 1024] inb_S544x1024_S16x1024_528_0, k0_pay4 i C⟩,
    ⟨Rect.unit ![16, 0] ![512, 1024] inb_S544x1024_S512x1024_16_0, k0_pay3 B⟩,
    ⟨Rect.unit ![0, 0] ![16, 1024] inb_S544x1024_S16x1024_0_0, k0_pay2 i A⟩]

theorem word_lo : ∀ n : Fin 16, (Scalar.extui (Scalar.cmpi .sgt (BitVec.ofNat 32 n.val) 0#32) : BitVec 32) = if 0 < n.val then 1#32 else 0#32 := by decide +kernel
theorem word_hi : ∀ n : Fin 16, (Scalar.extui (Scalar.cmpi .slt (BitVec.ofNat 32 n.val) 15#32) : BitVec 32) = if n.val < 15 then 1#32 else 0#32 := by decide +kernel

theorem flag_one : Scalar.sitofp (F := Ideal) .f32 1#32 = (1 : EReal) := by
  pointwise []
  rw [show (1#32).toInt = 1 from by decide]; norm_num
theorem flag_zero : Scalar.sitofp (F := Ideal) .f32 0#32 = (0 : EReal) := by
  pointwise []
  rw [show (0#32).toInt = 0 from by decide]; norm_num

theorem lo_at (i : grid0.Coords) (n : Fin 16) (hn : (i 1).val = n.val) (A : Vec Ideal S1x16x1024 .bf16) (r : Fin 16) (k : Fin 1024) :
    k0_pay2 (F := Ideal) i A (ix2 r k) = A (ix3 0 r k) * (if 0 < n.val then 1 else 0 : EReal) := by
  have h : k0_pay2 (F := Ideal) i A (ix2 r k)
      = A (ix3 0 r k) * Scalar.sitofp (F := Ideal) .f32 (Scalar.extui (Scalar.cmpi .sgt (BitVec.ofNat 32 (i 1).val) 0#32) : BitVec 32) := by
    pointwise [k0_pay2]
  rw [h, hn, word_lo n]
  split
  · rw [flag_one]
  · rw [flag_zero]

theorem hi_at (i : grid0.Coords) (n : Fin 16) (hn : (i 1).val = n.val) (C : Vec Ideal S1x16x1024 .bf16) (r : Fin 16) (k : Fin 1024) :
    k0_pay4 (F := Ideal) i C (ix2 r k) = C (ix3 0 r k) * (if n.val < 15 then 1 else 0 : EReal) := by
  have h : k0_pay4 (F := Ideal) i C (ix2 r k)
      = C (ix3 0 r k) * Scalar.sitofp (F := Ideal) .f32 (Scalar.extui (Scalar.cmpi .slt (BitVec.ofNat 32 (i 1).val) 15#32) : BitVec 32) := by
    pointwise [k0_pay4]
  rw [h, hn, word_hi n]
  split
  · rw [flag_one]
  · rw [flag_zero]

theorem tile_at (B : Vec Ideal S1x512x1024 .bf16) (r : Fin 512) (k : Fin 1024) : k0_pay3 (F := Ideal) B (ix2 r k) = B (ix3 0 r k) := by
  pointwise [k0_pay3]

theorem pay_at (ck : Vec Ideal S3x1024 .f32) (p q s : Vec Ideal S512x1024 .f32) (g : Vec Ideal S1x512x1024 .bf16) (w : Vec Ideal S1024x1024 .bf16)
    (x : Vec Ideal S1x512x1024 .f32) (f : Vec Ideal S1x1x1024 .f32) (u : Fin 1) (r : Fin 512) (k : Fin 1024) :
    k0_pay1 (F := Ideal) ck (k0_pay5 ck p) q s g w x f (ix3 u r k) = x (ix3 0 r k) + f (ix3 0 0 k) * ∑ j : Fin 1024, g (ix3 0 r j)
      * (p (ix2 r j) * ck (ix2 0 j) + q (ix2 r j) * ck (ix2 1 j) + s (ix2 r j) * ck (ix2 2 j)) * w (ix2 j k) := by
  pointwise [k0_pay1, k0_pay5]

/-- A row of the window is a row of the padded sequence. -/
theorem window_at (i : grid0.Coords) (n : Fin 16) (hn : (i 1).val = n.val) (A : Vec Ideal S1x16x1024 .bf16) (B : Vec Ideal S1x512x1024 .bf16) (C : Vec Ideal S1x16x1024 .bf16)
    (T : FVec Ideal Cert.Reference5Ideal.S4x8192x1024 .bf16) (b : Fin 4) (k : Fin 1024)
    (hA : ∀ s : Fin 8192, 0 < n.val → s.val + 1 = n.val * 512 → A (ix3 0 15 k) = T (ix3 b s k))
    (hB : ∀ (r : Fin 512) (s : Fin 8192), s.val = n.val * 512 + r.val → B (ix3 0 r k) = T (ix3 b s k))
    (hC : ∀ s : Fin 8192, s.val = n.val * 512 + 512 → C (ix3 0 0 k) = T (ix3 b s k))
    (q : Fin 544) (h1 : 15 ≤ q.val) (h2 : q.val ≤ 528) :
    View.canon (pieces i A B C) (ix2 q k) = ext T b (n.val * 512 + q.val - 15) k := by
  refine View.canon_eq_of_allAt (pieces i A B C) (ix2 q k) _ (View.cover_of_tiledBy (pieces i A B C) ![16, 1024] (by sl_kernel_rfl) _) ?_
  unfold pieces
  refine View.allAt_cons_unit _ _ _ _ _ ?_ (View.allAt_cons_unit _ _ _ _ _ ?_ (View.allAt_cons_unit _ _ _ _ _ ?_ (View.allAt_nil _ _)))
  · intro x hx
    have g1 : q.val = 528 + (x 0).val := hx 0
    have g2 : k.val = 0 + (x 1).val := hx 1
    have g0 : (x 0).val < 16 := (x 0).isLt
    rw [show x = ix2 (0 : Fin 16) k from by blk_ext, hi_at i n hn]
    unfold ext
    by_cases hc : n.val < 15
    · rw [if_pos hc, mul_one, dif_pos (by omega)]
      exact hC _ (by dsimp only; omega)
    · rw [if_neg hc, mul_zero, dif_neg (by omega)]
  · intro x hx
    have g1 : q.val = 16 + (x 0).val := hx 0
    have g2 : k.val = 0 + (x 1).val := hx 1
    have g0 : (x 0).val < 512 := (x 0).isLt
    rw [show x = ix2 (⟨(x 0).val, g0⟩ : Fin 512) k from by blk_ext, tile_at]
    unfold ext
    rw [dif_pos (by omega)]
    exact hB _ _ (by dsimp only; omega)
  · intro x hx
    have g1 : q.val = 0 + (x 0).val := hx 0
    have g2 : k.val = 0 + (x 1).val := hx 1
    have g0 : (x 0).val < 16 := (x 0).isLt
    rw [show x = ix2 (15 : Fin 16) k from by blk_ext, lo_at i n hn]
    unfold ext
    by_cases hc : 0 < n.val
    · rw [if_pos hc, mul_one, dif_pos (by omega)]
      exact hA _ hc (by dsimp only; omega)
    · rw [if_neg hc, mul_zero, dif_neg (by omega)]

variable (m : (ℓ : Loc nD τ sig) → Buf (Elt Ideal) ℓ)

theorem idx_val : ∀ t : Fin cfg0.N, win0_0.index t = ![t.val / 16, t.val % 16 * 32 - 1, 0]
    ∧ win0_1.index t = ![t.val / 16, t.val % 16, 0]
    ∧ win0_2.index t = ![t.val / 16, min (t.val % 16 * 32 + 32) 511, 0]
    ∧ win0_3.index t = ![t.val / 16, t.val % 16, 0]
    ∧ win0_4.index t = ![0, 0]
    ∧ win0_5.index t = ![0, 0]
    ∧ win0_6.index t = ![t.val / 16, t.val % 16, 0]
    ∧ win0_7.index t = ![t.val / 16, 0, 0]
    ∧ win0_8.index t = ![t.val / 16, t.val % 16, 0] :=
  (by decide +kernel : ∀ t : Fin grid0.N, _)

theorem coord_val : ∀ t : Fin cfg0.N, (grid0.coords t 1).val = t.val % 16 :=
  (by decide +kernel : ∀ t : Fin grid0.N, _)

/-- The result over the arguments. -/
def result (c : Dev nD) : FVec Ideal Cert.Reference5Ideal.S4x8192x1024 .f32 :=
  Cert.Reference5Ideal.Mid.summed (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))

/-- The window's rows at a point of the grid. -/
theorem rows (c : Dev nD) (t : Fin cfg0.N) (b : Fin 4) (hb : b.val = t.val / 16) (k : Fin 1024) (q : Fin 544) (h1 : 15 ≤ q.val) (h2 : q.val ≤ 528) :
    View.canon (pieces (grid0.coords t) (iblk m c 0 t) (iblk m c 1 t) (iblk m c 2 t)) (ix2 q k)
      = ext (m ((c : Thread nD τ).loc main_arg0)) b (t.val % 16 * 512 + q.val - 15) k := by
  refine window_at (grid0.coords t) ⟨t.val % 16, by omega⟩ (coord_val t) _ _ _ (m ((c : Thread nD τ).loc main_arg0)) b k ?_ ?_ ?_ q h1 h2
  · intro s hp hs
    dsimp only at hp hs
    blk_point [iblk, V, idx_val t]
  · intro r s hs
    dsimp only at hs
    blk_point [iblk, V, idx_val t]
  · intro s hs
    dsimp only at hs
    blk_point [iblk, V, idx_val t]

theorem load_at (v : View sig .tc .vmem S544x1024 .f32) (L : List (View.Piece (Elt Ideal) S544x1024 .f32)) (o : ℕ)
    (inb : ∀ a, (![o, 0] : Fin 2 → ℕ) a + (![512, 1024] : Fin 2 → ℕ) a ≤ S544x1024.size a) (r : Fin 512) (k : Fin 1024) (ho : o + r.val < 544) :
    v.readCov L (Rect.unit (s := S544x1024) ![o, 0] ![512, 1024] inb).toLoadRect (ix2 r k) = View.canon L (ix2 ⟨o + r.val, ho⟩ k) := by
  rw [View.readCov_eq_canon']
  refine congrArg (View.canon L) (funext fun a => Fin.ext ?_)
  match a with
  | 0 => show o + 1 * r.val = o + r.val; omega
  | 1 => show 0 + 1 * k.val = k.val; omega

theorem final_arr (c : Dev nD) : (dats m 0 c).arrAt 8 (cfgs 0).N = result m c := by
  refine (dats m 0 c).arrAt_eq_of_covers 8 _ (by decide +kernel) fun t hf y => ?_
  blk_simp; rw [after0_8]; unfold Gen.outsAt0; frame_out
  have h : t.val < 64 := lt_of_lt_of_eq t.isLt N_0
  obtain ⟨u, r, k, rfl⟩ : ∃ (u : Fin 1) (r : Fin 512) (k : Fin 1024), y = (ix3 u r k : S1x512x1024.Idx) := ⟨y 0, y 1, y 2, by blk_ext⟩
  obtain ⟨b, hb⟩ : ∃ b : Fin 4, b.val = t.val / 16 := ⟨⟨t.val / 16, by omega⟩, rfl⟩
  obtain ⟨s, hs⟩ : ∃ s : Fin 8192, s.val = t.val % 16 * 512 + r.val := ⟨⟨t.val % 16 * 512 + r.val, by omega⟩, rfl⟩
  refine Eq.trans (b := result m c (ix3 b s k)) ?_ (congrArg (result m c) ?_)
  swap
  · blk_ext [idx_val t]
  refine (pay_at _ _ _ _ _ _ _ _ u r k).trans (Eq.trans ?_ (Cert.Reference5Ideal.Mid.summed_at _ _ _ _ _ _ b s k).symm)
  have e0 : ∀ (o : ℕ) (inb : _) (j : Fin 1024), 15 ≤ o → o ≤ 17 → (View.whole cc0_scratch0).readCov (pieces (grid0.coords t) (iblk m c 0 t) (iblk m c 1 t) (iblk m c 2 t))
      (Rect.unit (s := S544x1024) ![o, 0] ![512, 1024] inb).toLoadRect (ix2 r j) = ext (m ((c : Thread nD τ).loc main_arg0)) b (s.val + (o - 15)) j := by
    intro o inb j p1 p2
    refine (load_at _ _ o inb r j (by omega)).trans ((rows m c t b hb j _ (by dsimp only; omega) (by dsimp only; omega)).trans ?_)
    exact congrArg (fun p => ext (m ((c : Thread nD τ).loc main_arg0)) b p j) (by dsimp only; omega)
  have e1 : ∀ j : Fin 1024, (iblk m c 3 t : Vec Ideal S1x512x1024 .bf16) (ix3 0 r j) = m ((c : Thread nD τ).loc main_arg1) (ix3 b s j) := by
    intro j; blk_point [iblk, V, idx_val t]
  have e2 : ∀ (a : Fin 3) (j : Fin 1024), (iblk m c 4 t : Vec Ideal S3x1024 .f32) (ix2 a j) = m ((c : Thread nD τ).loc main_arg2) (ix2 a j) := by
    intro a j; blk_point [iblk, V, idx_val t]
  have e3 : ∀ j k : Fin 1024, (iblk m c 5 t : Vec Ideal S1024x1024 .bf16) (ix2 j k) = m ((c : Thread nD τ).loc main_arg3) (ix2 j k) := by
    intro j k; blk_point [iblk, V, idx_val t]
  have e4 : (iblk m c 6 t : Vec Ideal S1x512x1024 .f32) (ix3 0 r k) = m ((c : Thread nD τ).loc main_arg4) (ix3 b s k) := by
    blk_point [iblk, V, idx_val t]
  have e5 : (iblk m c 7 t : Vec Ideal S1x1x1024 .f32) (ix3 0 0 k) = m ((c : Thread nD τ).loc main_arg5) (ix2 b k) := by
    blk_point [iblk, V, idx_val t]
  refine congrArg₂ (· + ·) e4 (congrArg₂ (· * ·) e5 (Finset.sum_congr rfl fun j _ => ?_))
  refine congrArg₂ (· * ·) (congrArg₂ (· * ·) (e1 j) ?_) (e3 j k)
  exact congrArg₂ (· + ·) (congrArg₂ (· + ·) (congrArg₂ (· * ·) (e0 15 _ j (by omega) (by omega)) (e2 0 j))
    (congrArg₂ (· * ·) (e0 16 _ j (by omega) (by omega)) (e2 1 j))) (congrArg₂ (· * ·) (e0 17 _ j (by omega) (by omega)) (e2 2 j))

end Cert.Kernel5Ideal.Mid

end
-- ==== Proof.RefConv.lean ====
module

public import proofs.«01_k».proof.Proof.Norm
public import proofs.«01_k».proof.Proof.Gen.Reference3Ideal.Run
public import Idealize.ShloMosaic.Lib.Pointwise

@[expose] public section

set_option maxRecDepth 16384

noncomputable section

namespace Cert.Reference3Ideal.Conv

open Cert.Reference3Ideal Cert.Reference3Ideal.Gen Cert.Reference3Ideal.Value Idealize.ShloMosaic Idealize.ShloMosaic.TcCoe
open scoped BigOperators

/-- The normalised, scaled and shifted activation. -/
def normed (a0 : FVec Ideal S4x8192x1024 .f32) (a1 a2 : FVec Ideal S4x1024 .f32) (a3 : FVec Ideal S1024 .f32) : FVec Ideal S4x8192x1024 .f32 :=
  addf (mulf (mulf (mulf a0 (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf a0 a0) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 a3))) (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 a2)))) (broadcastInDim S4x8192x1024 ![0, 1, 2] bcast_S4x1x1024_S4x8192x1024_0_1_2 (broadcastInDim S4x1x1024 ![0, 2] bcast_S4x1024_S4x1x1024_0_2 a1))

/-- The input projection. -/
def projected (h : FVec Ideal S4x8192x1024 .f32) (w : FVec Ideal S1024x4096 .f32) : FVec Ideal S4x8192x4096 .f32 :=
  Host.dotGeneral dot_S4x8192x1024_S1024x4096_S4x8192x4096_2_0_01_1_n_n none h w

/-- The convolution's input. -/
def input (p : FVec Ideal S4x8192x4096 .f32) : FVec Ideal S4x8192x1024 .bf16 :=
  truncf .bf16 (mulf (extractStridedSlice S4x8192x1024 ![0, 0, 1024] p slices_S4x8192x4096_S4x8192x1024_0_0_1024) (extractStridedSlice S4x8192x1024 ![0, 0, 2048] p slices_S4x8192x4096_S4x8192x1024_0_0_2048)) bitsLt_bf16_f32

/-- The gates. -/
def gates (p : FVec Ideal S4x8192x4096 .f32) : FVec Ideal S4x8192x1024 .bf16 :=
  truncf .bf16 (mulf (extractStridedSlice S4x8192x1024 ![0, 0, 0] p slices_S4x8192x4096_S4x8192x1024_0_0_0) (mulf (extractStridedSlice S4x8192x1024 ![0, 0, 3072] p slices_S4x8192x4096_S4x8192x1024_0_0_3072) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (extractStridedSlice S4x8192x1024 ![0, 0, 3072] p slices_S4x8192x4096_S4x8192x1024_0_0_3072))))))) bitsLt_bf16_f32

variable (m : (ℓ : Loc nD τ sig) → Buf (Elt Ideal) ℓ)

/-- The run's second result in these parts. -/
theorem res_eq (c : Dev nD) : res_main_v30 m c = gates (projected (normed (m ((c.tc : Thread nD τ).loc main_arg0))
    (m ((c.tc : Thread nD τ).loc main_arg1)) (m ((c.tc : Thread nD τ).loc main_arg2)) (m ((c.tc : Thread nD τ).loc main_arg3)))
    (m ((c.tc : Thread nD τ).loc main_arg4))) := rfl

theorem normed_at (a0 : FVec Ideal S4x8192x1024 .f32) (a1 a2 : FVec Ideal S4x1024 .f32) (a3 : FVec Ideal S1024 .f32)
    (b : Fin 4) (s : Fin 8192) (k : Fin 1024) :
    normed a0 a1 a2 a3 (ix3 b s k) = Cert.norm (fun j => a0 (ix3 b s j)) (fun j => a3 (ix1 j)) (fun j => a2 (ix2 b j)) (fun j => a1 (ix2 b j)) k := by
  pointwise [normed, Cert.norm, Cert.rms]

theorem projected_at (h : FVec Ideal S4x8192x1024 .f32) (w : FVec Ideal S1024x4096 .f32) (b : Fin 4) (s : Fin 8192) (d : Fin 4096) :
    projected h w (ix3 b s d) = ∑ k : Fin 1024, h (ix3 b s k) * w (ix2 k d) := by
  pointwise [projected]

theorem input_at (p : FVec Ideal S4x8192x4096 .f32) (b : Fin 4) (s : Fin 8192) (d : Fin 1024) :
    input p (ix3 b s d) = p (ix3 b s ⟨1024 + d.val, by omega⟩) * p (ix3 b s ⟨2048 + d.val, by omega⟩) := by
  pointwise [input]

theorem gates_at (p : FVec Ideal S4x8192x4096 .f32) (b : Fin 4) (s : Fin 8192) (d : Fin 1024) :
    gates p (ix3 b s d) = p (ix3 b s ⟨d.val, by omega⟩) * Cert.silu (p (ix3 b s ⟨3072 + d.val, by omega⟩)) := by
  pointwise [gates, Cert.silu]
  rfl

end Cert.Reference3Ideal.Conv

end
-- ==== Proof.Conv.lean ====
module

public import proofs.«01_k».proof.Proof.RefConv
public import proofs.«01_k».proof.Proof.Gen.Kernel3Ideal.Value
public import Idealize.ShloMosaic.Lib.Pipeline.ValueKit

@[expose] public section

set_option maxRecDepth 16384

noncomputable section

namespace Cert.Kernel3Ideal.Conv

open Cert.Kernel3Ideal Cert.Kernel3Ideal.Gen Idealize.ShloMosaic Idealize.ShloMosaic.TcCoe Idealize.SL.Sem
open Idealize.ShloMosaic.Pipeline (Dat)
open scoped BigOperators

variable (m : (ℓ : Loc nD τ sig) → Buf (Elt Ideal) ℓ)

theorem idx_val : ∀ t : Fin cfg0.N, win0_0.index t = ![t.val / 16, t.val % 16, 0]
    ∧ win0_1.index t = ![t.val / 16, 0, 0]
    ∧ win0_2.index t = ![t.val / 16, 0, 0]
    ∧ win0_3.index t = ![0, 0]
    ∧ win0_4.index t = ![0, 0]
    ∧ win0_5.index t = ![t.val / 16, t.val % 16, 0]
    ∧ win0_6.index t = ![t.val / 16, t.val % 16, 0] :=
  (by decide +kernel : ∀ t : Fin grid0.N, _)

/-- The normalised rows of a block. -/
theorem normed_at (x : Vec Ideal S1x512x1024 .f32) (g : Vec Ideal S1x1024 .f32) (s h : Vec Ideal S1x1x1024 .f32)
    (r : Fin 512) (k : Fin 1024) :
    k0_pay3 (F := Ideal) x g s h (ix2 r k) = Cert.norm (fun j => x (ix3 0 r j)) (fun j => g (ix2 0 j)) (fun j => s (ix3 0 0 j)) (fun j => h (ix3 0 0 j)) k := by
  pointwise [k0_pay3, Cert.norm, Cert.rms]

/-- One column tile of the convolution's input. -/
theorem mul_at (h : Vec Ideal S512x1024 .bf16) (w z : Vec Ideal S1024x512 .bf16) (u : Fin 1) (r : Fin 512) (d : Fin 512) :
    k0_pay6 (F := Ideal) h w h z (ix3 u r d) = (∑ k : Fin 1024, h (ix2 r k) * w (ix2 k d)) * (∑ k : Fin 1024, h (ix2 r k) * z (ix2 k d)) := by
  pointwise [k0_pay6]

/-- One column tile of the gates. -/
theorem gate_at (h : Vec Ideal S512x1024 .bf16) (w z : Vec Ideal S1024x512 .bf16) (u : Fin 1) (r : Fin 512) (d : Fin 512) :
    k0_pay2 (F := Ideal) h w h z (ix3 u r d) = (∑ k : Fin 1024, h (ix2 r k) * w (ix2 k d)) * Cert.silu (∑ k : Fin 1024, h (ix2 r k) * z (ix2 k d)) := by
  pointwise [k0_pay2, Cert.silu]

/-- The normalised activation over the arguments. -/
def N (c : Dev nD) : FVec Ideal Cert.Reference3Ideal.S4x8192x1024 .f32 :=
  Cert.Reference3Ideal.Conv.normed (m ((c : Thread nD τ).loc main_arg0)) (m ((c : Thread nD τ).loc main_arg1)) (m ((c : Thread nD τ).loc main_arg2)) (m ((c : Thread nD τ).loc main_arg3))

/-- A block's normalised rows are the reference's. -/
theorem rows (c : Dev nD) (t : Fin cfg0.N) (b : Fin 4) (s : Fin 8192) (r : Fin 512) (hb : b.val = t.val / 16)
    (hs : s.val = t.val % 16 * 512 + r.val) (k : Fin 1024) :
    k0_pay3 (F := Ideal) (iblk m c 0 t) (iblk m c 3 t) (iblk m c 2 t) (iblk m c 1 t) (ix2 r k) = N m c (ix3 b s k) := by
  refine (normed_at _ _ _ _ r k).trans (Eq.trans ?_ (Cert.Reference3Ideal.Conv.normed_at _ _ _ _ b s k).symm)
  have e0 : ∀ j : Fin 1024, (iblk m c 0 t : Vec Ideal S1x512x1024 .f32) (ix3 0 r j) = m ((c : Thread nD τ).loc main_arg0) (ix3 b s j) := by
    intro j; blk_point [iblk, V, idx_val t]
  have e1 : ∀ j : Fin 1024, (iblk m c 3 t : Vec Ideal S1x1024 .f32) (ix2 0 j) = m ((c : Thread nD τ).loc main_arg3) (ix1 j) := by
    intro j; blk_point [iblk, V, idx_val t]
  have e2 : ∀ j : Fin 1024, (iblk m c 2 t : Vec Ideal S1x1x1024 .f32) (ix3 0 0 j) = m ((c : Thread nD τ).loc main_arg2) (ix2 b j) := by
    intro j; blk_point [iblk, V, idx_val t]
  have e3 : ∀ j : Fin 1024, (iblk m c 1 t : Vec Ideal S1x1x1024 .f32) (ix3 0 0 j) = m ((c : Thread nD τ).loc main_arg1) (ix2 b j) := by
    intro j; blk_point [iblk, V, idx_val t]
  exact Cert.norm_congr e0 e1 e2 e3 k

theorem mul_core (H : Vec Ideal S512x1024 .bf16) (W Z : Vec Ideal S1024x512 .bf16) (n : FVec Ideal Cert.Reference3Ideal.S4x8192x1024 .f32)
    (w : FVec Ideal Cert.Reference3Ideal.S1024x4096 .f32) (u : Fin 1) (r d : Fin 512) (b : Fin 4) (s : Fin 8192) (e : Fin 1024)
    (hH : ∀ k, H (ix2 r k) = n (ix3 b s k)) (hW : ∀ k : Fin 1024, W (ix2 k d) = w (ix2 k ⟨1024 + e.val, by omega⟩))
    (hZ : ∀ k : Fin 1024, Z (ix2 k d) = w (ix2 k ⟨2048 + e.val, by omega⟩)) :
    k0_pay6 (F := Ideal) H W H Z (ix3 u r d) = Cert.Reference3Ideal.Conv.input (Cert.Reference3Ideal.Conv.projected n w) (ix3 b s e) := by
  refine (mul_at H W Z u r d).trans (Eq.trans ?_ (Cert.Reference3Ideal.Conv.input_at _ b s e).symm)
  rw [Cert.Reference3Ideal.Conv.projected_at, Cert.Reference3Ideal.Conv.projected_at]
  simp only [hH, hW, hZ]

theorem gate_core (H : Vec Ideal S512x1024 .bf16) (W Z : Vec Ideal S1024x512 .bf16) (n : FVec Ideal Cert.Reference3Ideal.S4x8192x1024 .f32)
    (w : FVec Ideal Cert.Reference3Ideal.S1024x4096 .f32) (u : Fin 1) (r d : Fin 512) (b : Fin 4) (s : Fin 8192) (e : Fin 1024)
    (hH : ∀ k, H (ix2 r k) = n (ix3 b s k)) (hW : ∀ k : Fin 1024, W (ix2 k d) = w (ix2 k ⟨e.val, by omega⟩))
    (hZ : ∀ k : Fin 1024, Z (ix2 k d) = w (ix2 k ⟨3072 + e.val, by omega⟩)) :
    k0_pay2 (F := Ideal) H W H Z (ix3 u r d) = Cert.Reference3Ideal.Conv.gates (Cert.Reference3Ideal.Conv.projected n w) (ix3 b s e) := by
  refine (gate_at H W Z u r d).trans (Eq.trans ?_ (Cert.Reference3Ideal.Conv.gates_at _ b s e).symm)
  rw [Cert.Reference3Ideal.Conv.projected_at, Cert.Reference3Ideal.Conv.projected_at]
  simp only [hH, hW, hZ]

/-- The index of a block's element in the array. -/
theorem place (t : Fin cfg0.N) : ∃ b : Fin 4, b.val = t.val / 16 ∧ ∀ r : Fin 512, ∃ s : Fin 8192, s.val = t.val % 16 * 512 + r.val := by
  have h : t.val < 64 := lt_of_lt_of_eq t.isLt N_0
  exact ⟨⟨t.val / 16, by omega⟩, rfl, fun r => ⟨⟨t.val % 16 * 512 + r.val, by omega⟩, rfl⟩⟩

theorem emb5 (t : Fin cfg0.N) (y : S1x512x1024.Idx) (b : Fin 4) (s : Fin 8192) (e : Fin 1024) (hb : b.val = t.val / 16)
    (hs : s.val = t.val % 16 * 512 + (y 1).val) (he : e.val = (y 2).val) : ((cfg0.win 5).blk t).view.emb y = ix3 b s e := by
  blk_ext [idx_val t]

theorem emb6 (t : Fin cfg0.N) (y : S1x512x1024.Idx) (b : Fin 4) (s : Fin 8192) (e : Fin 1024) (hb : b.val = t.val / 16)
    (hs : s.val = t.val % 16 * 512 + (y 1).val) (he : e.val = (y 2).val) : ((cfg0.win 6).blk t).view.emb y = ix3 b s e := by
  blk_ext [idx_val t]

theorem final_5 (c : Dev nD) : (dats m 0 c).arrAt 5 (cfgs 0).N = Cert.Reference3Ideal.Conv.input (Cert.Reference3Ideal.Conv.projected
    (N m c) (m ((c : Thread nD τ).loc main_arg4))) := by
  refine (dats m 0 c).arrAt_eq_of_covers 5 _ (by decide +kernel) fun t hf y => ?_
  blk_simp; rw [after0_5]
  unfold Gen.outsAt0; frame_out
  obtain ⟨b, hb, hp⟩ := place t
  canon_tiles x h
  all_goals
    obtain ⟨u, r, d, rfl⟩ : ∃ (u : Fin 1) (r d : Fin 512), x = ix3 u r d := ⟨x 0, x 1, x 2, by blk_ext⟩
    obtain ⟨s, hs⟩ := hp r
  · refine (mul_core _ _ _ (N m c) (m ((c : Thread nD τ).loc main_arg4)) u r d b s ⟨512 + d.val, by omega⟩ (rows m c t b s r hb hs) ?_ ?_).trans
      (congrArg _ (emb5 t y b s _ hb (hs.trans (by rw [h1]; rfl)) h2.symm).symm)
    all_goals intro k; blk_point [iblk, V, idx_val t]
  · refine Eq.trans ?_ (congrArg _ (emb5 t y b s ⟨d.val, by omega⟩ hb (hs.trans (by rw [h1]; rfl)) h2.symm).symm)
    refine mul_core _ _ _ (N m c) (m ((c : Thread nD τ).loc main_arg4)) u r d b s ⟨d.val, by omega⟩ (rows m c t b s r hb hs) ?_ ?_
    all_goals intro k; blk_point [iblk, V, idx_val t]

theorem final_6 (c : Dev nD) : (dats m 0 c).arrAt 6 (cfgs 0).N = Cert.Reference3Ideal.Conv.gates (Cert.Reference3Ideal.Conv.projected
    (N m c) (m ((c : Thread nD τ).loc main_arg4))) := by
  refine (dats m 0 c).arrAt_eq_of_covers 6 _ (by decide +kernel) fun t hf y => ?_
  blk_simp; rw [after0_6]
  unfold Gen.outsAt0; frame_out
  obtain ⟨b, hb, hp⟩ := place t
  canon_tiles x h
  all_goals
    obtain ⟨u, r, d, rfl⟩ : ∃ (u : Fin 1) (r d : Fin 512), x = ix3 u r d := ⟨x 0, x 1, x 2, by blk_ext⟩
    obtain ⟨s, hs⟩ := hp r
  · refine (gate_core _ _ _ (N m c) (m ((c : Thread nD τ).loc main_arg4)) u r d b s ⟨512 + d.val, by omega⟩ (rows m c t b s r hb hs) ?_ ?_).trans
      (congrArg _ (emb6 t y b s _ hb (hs.trans (by rw [h1]; rfl)) h2.symm).symm)
    all_goals intro k; blk_point [iblk, V, idx_val t]
  · refine Eq.trans ?_ (congrArg _ (emb6 t y b s ⟨d.val, by omega⟩ hb (hs.trans (by rw [h1]; rfl)) h2.symm).symm)
    refine gate_core _ _ _ (N m c) (m ((c : Thread nD τ).loc main_arg4)) u r d b s ⟨d.val, by omega⟩ (rows m c t b s r hb hs) ?_ ?_
    all_goals intro k; blk_point [iblk, V, idx_val t]

end Cert.Kernel3Ideal.Conv

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Final
public import proofs.«01_k».proof.Proof.Ref
public import proofs.«01_k».proof.Proof.Pre
public import proofs.«01_k».proof.Proof.InFin
public import proofs.«01_k».proof.Proof.Last
public import proofs.«01_k».proof.Proof.Mid
public import proofs.«01_k».proof.Proof.Conv
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run, its final counters all at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- On equal arguments the kernel's result array is the reference's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v66 m' c = Cert.KernelIdeal.Attn.result m c := by
  obtain ⟨e0, e1, e2, e3, e4⟩ := h
  funext i
  have hd : (i 2).val < 1024 := (i 2).isLt
  obtain ⟨b, hb⟩ : ∃ b : Fin 4, b = i 0 := ⟨_, rfl⟩
  obtain ⟨s, hs⟩ : ∃ s : Fin 8192, s = i 1 := ⟨_, rfl⟩
  obtain ⟨k, hk⟩ : ∃ k : Fin 8, k.val = (i 2).val / 128 := ⟨⟨(i 2).val / 128, by omega⟩, rfl⟩
  obtain ⟨e, he⟩ : ∃ e : Fin 128, e.val = (i 2).val % 128 := ⟨⟨(i 2).val % 128, by omega⟩, rfl⟩
  have hi : i = ix3 b s (Cert.Spec.col k e) := by
    funext a
    match a with
    | 0 => exact hb.symm
    | 1 => exact hs.symm
    | 2 => exact Fin.ext (by show (i 2).val = k.val * 128 + e.val; omega)
  rw [hi]
  refine (Cert.ReferenceIdeal.Attn.ref_at m' c b s k e).trans ?_
  rw [e0, e1, e2, e3, e4]
  exact (Cert.KernelIdeal.Attn.result_at m c b s k e).symm

/-- The run of `Reference2Ideal`, its final counters all at zero. -/
theorem frame_reference2 (m : (ℓ : Loc Cert.Reference2Ideal.nD Cert.Reference2Ideal.τ Cert.Reference2Ideal.sig) → Buf (Elt Ideal) ℓ)
    (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0) :=
  (θ_run Cert.Reference2Ideal.defs _ _).mono
    (fun r h => ⟨fun c => (h c).2.2.2.2.2, Idealize.ShloMosaic.sem_eq_zero_of_no_sems (by decide) r.2⟩)
    (Cert.Reference2Ideal.Value.run (F := Ideal) m g)

/-- The run of `Reference3Ideal`, its final counters all at zero. -/
theorem frame_reference3 (m : (ℓ : Loc Cert.Reference3Ideal.nD Cert.Reference3Ideal.τ Cert.Reference3Ideal.sig) → Buf (Elt Ideal) ℓ)
    (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run Cert.Reference3Ideal.defs _ _).mono
    (fun r h => ⟨fun c => (h c).2.2, Idealize.ShloMosaic.sem_eq_zero_of_no_sems (by decide) r.2⟩)
    (Cert.Reference3Ideal.Value.run (F := Ideal) m g)

/-- The run of `Reference4Ideal`, its final counters all at zero. -/
theorem frame_reference4 (m : (ℓ : Loc Cert.Reference4Ideal.nD Cert.Reference4Ideal.τ Cert.Reference4Ideal.sig) → Buf (Elt Ideal) ℓ)
    (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run Cert.Reference4Ideal.defs _ _).mono
    (fun r h => ⟨fun c => (h c).2, Idealize.ShloMosaic.sem_eq_zero_of_no_sems (by decide) r.2⟩)
    (Cert.Reference4Ideal.Value.run (F := Ideal) m g)

/-- On equal arguments the residual sums agree. -/
theorem sums_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) :
    Cert.Reference2Ideal.In.X m' c = Cert.Kernel2Ideal.In.X m c := by
  obtain ⟨e0, e1, e2, e3, e4, e5, e6, e7, e8⟩ := h
  unfold Cert.Reference2Ideal.In.X Cert.Kernel2Ideal.In.X
  rw [e0, e1, e2, e3, e4]

/-- On equal arguments the projections of `Reference2Ideal` and `Kernel2Ideal` agree. -/
theorem projections_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) :
    Cert.Reference2Ideal.In.P m' c = Cert.Kernel2Ideal.In.P m c := by
  have hx := sums_eq m m' c h
  obtain ⟨e0, e1, e2, e3, e4, e5, e6, e7, e8⟩ := h
  unfold Cert.Reference2Ideal.In.P Cert.Kernel2Ideal.In.P Cert.Kernel2Ideal.In.N
  rw [hx, e5, e6, e7, e8]

/-- The projection of `Kernel3Ideal`'s normalised rows. -/
def proj3 (m : (ℓ : Loc Cert.Kernel3Ideal.nD Cert.Kernel3Ideal.τ Cert.Kernel3Ideal.sig) → Buf (Elt Ideal) ℓ) (c : Dev Cert.Kernel3Ideal.nD) :
    FVec Ideal Cert.Reference3Ideal.S4x8192x4096 .f32 :=
  Cert.Reference3Ideal.Conv.projected (Cert.Kernel3Ideal.Conv.N m c) (m ((c.tc : Thread Cert.Kernel3Ideal.nD Cert.Kernel3Ideal.τ).loc Cert.Kernel3Ideal.main_arg4))

/-- On equal arguments the projections of `Reference3Ideal` and `Kernel3Ideal` agree. -/
theorem proj3_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    Cert.Reference3Ideal.Conv.projected (Cert.Reference3Ideal.Conv.normed (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)))
      (m' ((c.tc : Thread Cert.Reference3Ideal.nD Cert.Reference3Ideal.τ).loc Cert.Reference3Ideal.main_arg4)) = proj3 m c := by
  obtain ⟨e0, e1, e2, e3, e4⟩ := h
  unfold proj3 Cert.Kernel3Ideal.Conv.N
  rw [e0, e1, e2, e3, e4]

/-- On equal arguments the result of `Reference4Ideal` is `Kernel4Ideal`'s. -/
theorem last_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) :
    Cert.Reference4Ideal.Last.rooted (Cert.Reference4Ideal.Last.summed (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)))
      (m' ((c.tc : Thread Cert.Reference4Ideal.nD Cert.Reference4Ideal.τ).loc Cert.Reference4Ideal.main_arg5)) = Cert.Kernel4Ideal.Last.result m c := by
  obtain ⟨e0, e1, e2, e3, e4, e5⟩ := h
  unfold Cert.Kernel4Ideal.Last.result
  rw [e0, e1, e2, e3, e4, e5]

/-- The input projection of the differential attention computes what its reference computes. -/
theorem algebraic2 : Cert.algebraic_Kernel2Ideal_Reference2Ideal (hKernel2Ideal := Cert.Kernel2Ideal.Gen.facts) (hReference2Ideal := Cert.Reference2Ideal.Gen.facts) :=
  fun m g m' g' _ hargs => ⟨fun c => Cert.Kernel2Ideal.In.X m c, fun c => Cert.Reference2Ideal.In.queries (Cert.Kernel2Ideal.In.P m c),
    fun c => Cert.Reference2Ideal.In.keys (Cert.Kernel2Ideal.In.P m c), fun c => Cert.Reference2Ideal.In.values (Cert.Kernel2Ideal.In.P m c),
    fun c => Cert.Reference2Ideal.In.gates (Cert.Kernel2Ideal.In.P m c),
    (θ_run Cert.Kernel2Ideal.defs _ _).mono
      (fun r h c => ⟨(h c).1.trans (Cert.Kernel2Ideal.In.final_13 m c), (h c).2.1.trans (Cert.Kernel2Ideal.In.final_14 m c),
        (h c).2.2.1.trans (Cert.Kernel2Ideal.In.final_15 m c), (h c).2.2.2.1.trans (Cert.Kernel2Ideal.In.final_16 m c),
        (h c).2.2.2.2.1.trans (Cert.Kernel2Ideal.In.final_17 m c), (h c).2.2.2.2.2⟩)
      (Cert.Kernel2Ideal.Value.run_blocks m g),
    (θ_run Cert.Reference2Ideal.defs _ _).mono
      (fun r h c => ⟨(h c).1.trans (sums_eq m m' c (hargs c)),
        (h c).2.1.trans ((Cert.Reference2Ideal.In.res_q m' c).trans (congrArg Cert.Reference2Ideal.In.queries (projections_eq m m' c (hargs c)))),
        (h c).2.2.1.trans ((Cert.Reference2Ideal.In.res_k m' c).trans (congrArg Cert.Reference2Ideal.In.keys (projections_eq m m' c (hargs c)))),
        (h c).2.2.2.1.trans ((Cert.Reference2Ideal.In.res_v m' c).trans (congrArg Cert.Reference2Ideal.In.values (projections_eq m m' c (hargs c)))),
        (h c).2.2.2.2.1.trans ((Cert.Reference2Ideal.In.res_z m' c).trans (congrArg Cert.Reference2Ideal.In.gates (projections_eq m m' c (hargs c)))),
        (h c).2.2.2.2.2⟩)
      (Cert.Reference2Ideal.Value.run (F := Ideal) m' g')⟩

/-- The input projection of the short convolution computes what its reference computes. -/
theorem algebraic3 : Cert.algebraic_Kernel3Ideal_Reference3Ideal (hKernel3Ideal := Cert.Kernel3Ideal.Gen.facts) (hReference3Ideal := Cert.Reference3Ideal.Gen.facts) :=
  fun m g m' g' _ hargs => ⟨fun c => Cert.Reference3Ideal.Conv.input (proj3 m c), fun c => Cert.Reference3Ideal.Conv.gates (proj3 m c),
    (θ_run Cert.Kernel3Ideal.defs _ _).mono
      (fun r h c => ⟨(h c).1.trans (Cert.Kernel3Ideal.Conv.final_5 m c), (h c).2.1.trans (Cert.Kernel3Ideal.Conv.final_6 m c), (h c).2.2⟩)
      (Cert.Kernel3Ideal.Value.run_blocks m g),
    (θ_run Cert.Reference3Ideal.defs _ _).mono
      (fun r h c => ⟨(h c).1.trans (congrArg Cert.Reference3Ideal.Conv.input (proj3_eq m m' c (hargs c))),
        (h c).2.1.trans ((Cert.Reference3Ideal.Conv.res_eq m' c).trans (congrArg Cert.Reference3Ideal.Conv.gates (proj3_eq m m' c (hargs c)))), (h c).2.2⟩)
      (Cert.Reference3Ideal.Value.run (F := Ideal) m' g')⟩

/-- The last output projection computes what its reference computes. -/
theorem algebraic4 : Cert.algebraic_Kernel4Ideal_Reference4Ideal (hKernel4Ideal := Cert.Kernel4Ideal.Gen.facts) (hReference4Ideal := Cert.Reference4Ideal.Gen.facts) :=
  fun m g m' g' _ hargs => ⟨fun c => Cert.Kernel4Ideal.Last.result m c,
    (θ_run Cert.Kernel4Ideal.defs _ _).mono
      (fun r h c => ⟨(h c).1.trans (Cert.Kernel4Ideal.Last.final_arr m c), (h c).2⟩)
      (Cert.Kernel4Ideal.Value.run_blocks m g),
    (θ_run Cert.Reference4Ideal.defs _ _).mono
      (fun r h c => ⟨(h c).1.trans (last_eq m m' c (hargs c)), (h c).2⟩)
      (Cert.Reference4Ideal.Value.run (F := Ideal) m' g')⟩

/-- The run of `Reference5Ideal`, its final counters all at zero. -/
theorem frame_reference5 (m : (ℓ : Loc Cert.Reference5Ideal.nD Cert.Reference5Ideal.τ Cert.Reference5Ideal.sig) → Buf (Elt Ideal) ℓ)
    (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0) :=
  (θ_run Cert.Reference5Ideal.defs _ _).mono
    (fun r h => ⟨fun c => (h c).2, Idealize.ShloMosaic.sem_eq_zero_of_no_sems (by decide) r.2⟩)
    (Cert.Reference5Ideal.Value.run (F := Ideal) m g)

/-- On equal arguments the result of `Reference5Ideal` is `Kernel5Ideal`'s. -/
theorem mid_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) :
    Cert.Reference5Ideal.Mid.summed (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) (m' ((c.tc : Thread Cert.Reference5Ideal.nD Cert.Reference5Ideal.τ).loc Cert.Reference5Ideal.main_arg5)) = Cert.Kernel5Ideal.Mid.result m c := by
  obtain ⟨e0, e1, e2, e3, e4, e5⟩ := h
  unfold Cert.Kernel5Ideal.Mid.result
  rw [e0, e1, e2, e3, e4, e5]

/-- The convolution and its output projection compute what their reference computes. -/
theorem algebraic5 : Cert.algebraic_Kernel5Ideal_Reference5Ideal (hKernel5Ideal := Cert.Kernel5Ideal.Gen.facts) (hReference5Ideal := Cert.Reference5Ideal.Gen.facts) :=
  fun m g m' g' _ hargs => ⟨fun c => Cert.Kernel5Ideal.Mid.result m c,
    (θ_run Cert.Kernel5Ideal.defs _ _).mono
      (fun r h c => ⟨(h c).1.trans (Cert.Kernel5Ideal.Mid.final_arr m c), (h c).2⟩)
      (Cert.Kernel5Ideal.Value.run_blocks m g),
    (θ_run Cert.Reference5Ideal.defs _ _).mono
      (fun r h c => ⟨(h c).1.trans (mid_eq m m' c (hargs c)), (h c).2⟩)
      (Cert.Reference5Ideal.Value.run (F := Ideal) m' g')⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Finite.pre_facts,
  fun m g _ => Cert.Kernel.Gen.frame m g,
  fun m g _ => Cert.KernelIdeal.Gen.frame m g,
  fun m g _ => Cert.KernelIdeal.Gen.frame m g,
  fun m g _ => frame_reference m g,
  fun m g _ => frame_reference m g,
  fun m g _ => Cert.Kernel2.Gen.frame m g,
  fun m g _ => Cert.Kernel2Ideal.Gen.frame m g,
  fun m g _ => frame_reference2 m g,
  fun m g _ => Cert.Kernel3.Gen.frame m g,
  fun m g _ => Cert.Kernel3Ideal.Gen.frame m g,
  fun m g _ => frame_reference3 m g,
  fun m g _ => Cert.Kernel4.Gen.frame m g,
  fun m g _ => Cert.Kernel4Ideal.Gen.frame m g,
  fun m g _ => frame_reference4 m g,
  fun m g _ => Cert.Kernel5.Gen.frame m g,
  fun m g _ => Cert.Kernel5Ideal.Gen.frame m g,
  fun m g _ => frame_reference5 m g,
  trivial,
  fun m g m' g' hpre hargs => ⟨fun c => Cert.KernelIdeal.Attn.result m c,
    (θ_run Cert.KernelIdeal.defs _ _).mono
      (fun r h c => ⟨(h c).1.trans (Cert.KernelIdeal.Attn.final_arr m c
        (@Cert.Finite.real0 Cert.Finite.pre_facts _ _ _ _ _ (hpre c).1) (@Cert.Finite.real4 Cert.Finite.pre_facts _ _ _ _ _ (hpre c).2)), (h c).2⟩)
      (Cert.KernelIdeal.Value.run_blocks m g),
    (θ_run Cert.ReferenceIdeal.defs _ _).mono
      (fun r h c => ⟨(h c).1.trans (results_eq m m' c (hargs c)), (h c).2⟩)
      (Cert.ReferenceIdeal.Value.run (F := Ideal) m' g')⟩,
  trivial, algebraic2, trivial, algebraic3, trivial, algebraic4, trivial, algebraic5⟩

end Cert.Proof

end
